-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 128]⟩ ⟨2, ![4096, 128]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 256]⟩ ⟨2, ![128, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 128]⟩ ⟨2, ![8192, 128]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 8192]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 128]⟩ ⟨2, ![8192, 128]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![128, 256]⟩ ⟨2, ![128, 8192]⟩ 1 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![256, 128]⟩ ⟨2, ![8192, 128]⟩ 0 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x128 : Shape := ⟨2, ![128, 128]⟩
abbrev S128x256 : Shape := ⟨2, ![128, 256]⟩
abbrev S256x128 : Shape := ⟨2, ![256, 128]⟩
abbrev S4096x128 : Shape := ⟨2, ![4096, 128]⟩
abbrev S31x128x128 : Shape := ⟨3, ![31, 128, 128]⟩
abbrev S31 : Shape := ⟨1, ![31]⟩
abbrev S_ : Shape := ⟨0, ![]⟩
abbrev S1 : Shape := ⟨1, ![1]⟩
abbrev S1x128x128 : Shape := ⟨3, ![1, 128, 128]⟩
abbrev S1024x128 : Shape := ⟨2, ![1024, 128]⟩
abbrev S1024x256 : Shape := ⟨2, ![1024, 256]⟩

abbrev nBuf : Space → Nat
  | .hbm => 8
  | .vmem => 11
  | .smem => 0
  | _ => 0

abbrev bufTy : (tb : Table) → Fin (tcTables nBuf tb) → BufTy
  | .hbm, ⟨0, _⟩ => ⟨S128x128, .f32⟩
  | .hbm, ⟨1, _⟩ => ⟨S128x256, .f32⟩
  | .hbm, ⟨2, _⟩ => ⟨S256x128, .f32⟩
  | .hbm, ⟨3, _⟩ => ⟨S128x256, .f32⟩
  | .hbm, ⟨4, _⟩ => ⟨S256x128, .f32⟩
  | .hbm, ⟨5, _⟩ => ⟨S128x256, .f32⟩
  | .hbm, ⟨6, _⟩ => ⟨S256x128, .f32⟩
  | .hbm, ⟨7, _⟩ => ⟨S4096x128, .f32⟩
  | .local _ .vmem, ⟨0, _⟩ => ⟨S128x128, .f32⟩
  | .local _ .vmem, ⟨1, _⟩ => ⟨S128x256, .f32⟩
  | .local _ .vmem, ⟨2, _⟩ => ⟨S256x128, .f32⟩
  | .local _ .vmem, ⟨3, _⟩ => ⟨S128x256, .f32⟩
  | .local _ .vmem, ⟨4, _⟩ => ⟨S256x128, .f32⟩
  | .local _ .vmem, ⟨5, _⟩ => ⟨S128x256, .f32⟩
  | .local _ .vmem, ⟨6, _⟩ => ⟨S256x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S31x128x128, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => true
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 1 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 32
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v25 : BitVec 32 := Scalar.muli v13 c1_i32_14
  let v26 : BitVec 32 := Scalar.addi c0_i32_15 v25
  v26.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v27 : BitVec 32 := Scalar.muli v24 c1_i32_17
  let v28 : BitVec 32 := Scalar.addi c0_i32_18 v27
  v28.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v31 : BitVec 32 := Scalar.muli v2 c128_i32
  let v32 : Index := Scalar.indexCast v31
  let c0_20 : Index := 0#32
  ![v32.toNat, 0]
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_24 : BitVec 32 := 1#32
  let v36 : BitVec 32 := Scalar.muli v24 c1_i32_24
  let v37 : BitVec 32 := Scalar.addi c0_i32_25 v36
  v37.toNat
def k0_off2 (d0 : Dev nD) (c0_i32_41 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v54 : BitVec 32 := Scalar.subi v2 c0_i32_41
  let c1_i32_42 : BitVec 32 := 1#32
  let v55 : BitVec 32 := Scalar.subi v54 c1_i32_42
  let c32_i32_43 : BitVec 32 := 32#32
  let c0_i32_44 : BitVec 32 := 0#32
  let v56 : BitVec 1 := Scalar.cmpi .eq c32_i32_43 c0_i32_44
  let c1_i32_45 : BitVec 32 := 1#32
  let v57 : BitVec 32 := Scalar.select v56 c1_i32_45 c32_i32_43
  let v58 : BitVec 32 := Scalar.remsi v55 v57
  let c0_i32_47 : BitVec 32 := 0#32
  let v60 : BitVec 1 := Scalar.cmpi .slt v58 c0_i32_47
  let c0_i32_48 : BitVec 32 := 0#32
  let v61 : BitVec 1 := Scalar.cmpi .slt v57 c0_i32_48
  let v62 : BitVec 1 := Scalar.xori v60 v61
  let c0_i32_46 : BitVec 32 := 0#32
  let v59 : BitVec 1 := Scalar.cmpi .ne v58 c0_i32_46
  let v63 : BitVec 1 := Scalar.andi v62 v59
  let v64 : BitVec 32 := Scalar.addi v58 v57
  let v65 : BitVec 32 := Scalar.select v63 v64 v58
  let c128_i32_52 : BitVec 32 := 128#32
  let v68 : BitVec 32 := Scalar.muli v65 c128_i32_52
  let v69 : Index := Scalar.indexCast v68
  let c0_53 : Index := 0#32
  ![v69.toNat, 0]
def k0_dev4 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_58 : BitVec 32 := 1#32
  let v73 : BitVec 32 := Scalar.muli v24 c1_i32_58
  let v74 : BitVec 32 := Scalar.addi c0_i32_59 v73
  v74.toNat
def k0_dev5 (d0 : Dev nD) : Nat :=
  let c0_i32_100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_99 : BitVec 32 := 1#32
  let v116 : BitVec 32 := Scalar.muli v24 c1_i32_99
  let v117 : BitVec 32 := Scalar.addi c0_i32_100 v116
  v117.toNat
def k0_dev6 (d0 : Dev nD) : Nat :=
  let c0_i32_140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_139 : BitVec 32 := 1#32
  let v159 : BitVec 32 := Scalar.muli v24 c1_i32_139
  let v160 : BitVec 32 := Scalar.addi c0_i32_140 v159
  v160.toNat
def k0_dev7 (d0 : Dev nD) : Nat :=
  let c0_i32_180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_179 : BitVec 32 := 1#32
  let v202 : BitVec 32 := Scalar.muli v24 c1_i32_179
  let v203 : BitVec 32 := Scalar.addi c0_i32_180 v202
  v203.toNat
def k0_dev8 (d0 : Dev nD) : Nat :=
  let c0_i32_220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_219 : BitVec 32 := 1#32
  let v245 : BitVec 32 := Scalar.muli v24 c1_i32_219
  let v246 : BitVec 32 := Scalar.addi c0_i32_220 v245
  v246.toNat
def k0_dev9 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_259 : BitVec 32 := 1#32
  let v288 : BitVec 32 := Scalar.muli v24 c1_i32_259
  let v289 : BitVec 32 := Scalar.addi c0_i32_260 v288
  v289.toNat
def k0_dev10 (d0 : Dev nD) : Nat :=
  let c0_i32_300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_299 : BitVec 32 := 1#32
  let v331 : BitVec 32 := Scalar.muli v24 c1_i32_299
  let v332 : BitVec 32 := Scalar.addi c0_i32_300 v331
  v332.toNat
def k0_dev11 (d0 : Dev nD) : Nat :=
  let c0_i32_340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_339 : BitVec 32 := 1#32
  let v374 : BitVec 32 := Scalar.muli v24 c1_i32_339
  let v375 : BitVec 32 := Scalar.addi c0_i32_340 v374
  v375.toNat
def k0_dev12 (d0 : Dev nD) : Nat :=
  let c0_i32_380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_379 : BitVec 32 := 1#32
  let v417 : BitVec 32 := Scalar.muli v24 c1_i32_379
  let v418 : BitVec 32 := Scalar.addi c0_i32_380 v417
  v418.toNat
def k0_dev13 (d0 : Dev nD) : Nat :=
  let c0_i32_420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_419 : BitVec 32 := 1#32
  let v460 : BitVec 32 := Scalar.muli v24 c1_i32_419
  let v461 : BitVec 32 := Scalar.addi c0_i32_420 v460
  v461.toNat
def k0_dev14 (d0 : Dev nD) : Nat :=
  let c0_i32_460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_459 : BitVec 32 := 1#32
  let v503 : BitVec 32 := Scalar.muli v24 c1_i32_459
  let v504 : BitVec 32 := Scalar.addi c0_i32_460 v503
  v504.toNat
def k0_dev15 (d0 : Dev nD) : Nat :=
  let c0_i32_500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_499 : BitVec 32 := 1#32
  let v546 : BitVec 32 := Scalar.muli v24 c1_i32_499
  let v547 : BitVec 32 := Scalar.addi c0_i32_500 v546
  v547.toNat
def k0_dev16 (d0 : Dev nD) : Nat :=
  let c0_i32_540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_539 : BitVec 32 := 1#32
  let v589 : BitVec 32 := Scalar.muli v24 c1_i32_539
  let v590 : BitVec 32 := Scalar.addi c0_i32_540 v589
  v590.toNat
def k0_dev17 (d0 : Dev nD) : Nat :=
  let c0_i32_580 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_579 : BitVec 32 := 1#32
  let v632 : BitVec 32 := Scalar.muli v24 c1_i32_579
  let v633 : BitVec 32 := Scalar.addi c0_i32_580 v632
  v633.toNat
def k0_dev18 (d0 : Dev nD) : Nat :=
  let c0_i32_620 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_619 : BitVec 32 := 1#32
  let v675 : BitVec 32 := Scalar.muli v24 c1_i32_619
  let v676 : BitVec 32 := Scalar.addi c0_i32_620 v675
  v676.toNat
def k0_dev19 (d0 : Dev nD) : Nat :=
  let c0_i32_660 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_659 : BitVec 32 := 1#32
  let v718 : BitVec 32 := Scalar.muli v24 c1_i32_659
  let v719 : BitVec 32 := Scalar.addi c0_i32_660 v718
  v719.toNat
def k0_dev20 (d0 : Dev nD) : Nat :=
  let c0_i32_700 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_699 : BitVec 32 := 1#32
  let v761 : BitVec 32 := Scalar.muli v24 c1_i32_699
  let v762 : BitVec 32 := Scalar.addi c0_i32_700 v761
  v762.toNat
def k0_dev21 (d0 : Dev nD) : Nat :=
  let c0_i32_740 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_739 : BitVec 32 := 1#32
  let v804 : BitVec 32 := Scalar.muli v24 c1_i32_739
  let v805 : BitVec 32 := Scalar.addi c0_i32_740 v804
  v805.toNat
def k0_dev22 (d0 : Dev nD) : Nat :=
  let c0_i32_780 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_779 : BitVec 32 := 1#32
  let v847 : BitVec 32 := Scalar.muli v24 c1_i32_779
  let v848 : BitVec 32 := Scalar.addi c0_i32_780 v847
  v848.toNat
def k0_dev23 (d0 : Dev nD) : Nat :=
  let c0_i32_820 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_819 : BitVec 32 := 1#32
  let v890 : BitVec 32 := Scalar.muli v24 c1_i32_819
  let v891 : BitVec 32 := Scalar.addi c0_i32_820 v890
  v891.toNat
def k0_dev24 (d0 : Dev nD) : Nat :=
  let c0_i32_860 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_859 : BitVec 32 := 1#32
  let v933 : BitVec 32 := Scalar.muli v24 c1_i32_859
  let v934 : BitVec 32 := Scalar.addi c0_i32_860 v933
  v934.toNat
def k0_dev25 (d0 : Dev nD) : Nat :=
  let c0_i32_900 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_899 : BitVec 32 := 1#32
  let v976 : BitVec 32 := Scalar.muli v24 c1_i32_899
  let v977 : BitVec 32 := Scalar.addi c0_i32_900 v976
  v977.toNat
def k0_dev26 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_939 : BitVec 32 := 1#32
  let v1019 : BitVec 32 := Scalar.muli v24 c1_i32_939
  let v1020 : BitVec 32 := Scalar.addi c0_i32_940 v1019
  v1020.toNat
def k0_dev27 (d0 : Dev nD) : Nat :=
  let c0_i32_980 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_979 : BitVec 32 := 1#32
  let v1062 : BitVec 32 := Scalar.muli v24 c1_i32_979
  let v1063 : BitVec 32 := Scalar.addi c0_i32_980 v1062
  v1063.toNat
def k0_dev28 (d0 : Dev nD) : Nat :=
  let c0_i32_1020 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1019 : BitVec 32 := 1#32
  let v1105 : BitVec 32 := Scalar.muli v24 c1_i32_1019
  let v1106 : BitVec 32 := Scalar.addi c0_i32_1020 v1105
  v1106.toNat
def k0_dev29 (d0 : Dev nD) : Nat :=
  let c0_i32_1060 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1059 : BitVec 32 := 1#32
  let v1148 : BitVec 32 := Scalar.muli v24 c1_i32_1059
  let v1149 : BitVec 32 := Scalar.addi c0_i32_1060 v1148
  v1149.toNat
def k0_dev30 (d0 : Dev nD) : Nat :=
  let c0_i32_1100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1099 : BitVec 32 := 1#32
  let v1191 : BitVec 32 := Scalar.muli v24 c1_i32_1099
  let v1192 : BitVec 32 := Scalar.addi c0_i32_1100 v1191
  v1192.toNat
def k0_dev31 (d0 : Dev nD) : Nat :=
  let c0_i32_1140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1139 : BitVec 32 := 1#32
  let v1234 : BitVec 32 := Scalar.muli v24 c1_i32_1139
  let v1235 : BitVec 32 := Scalar.addi c0_i32_1140 v1234
  v1235.toNat
def k0_dev32 (d0 : Dev nD) : Nat :=
  let c0_i32_1180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1179 : BitVec 32 := 1#32
  let v1277 : BitVec 32 := Scalar.muli v24 c1_i32_1179
  let v1278 : BitVec 32 := Scalar.addi c0_i32_1180 v1277
  v1278.toNat
def k0_dev33 (d0 : Dev nD) : Nat :=
  let c0_i32_1220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1219 : BitVec 32 := 1#32
  let v1320 : BitVec 32 := Scalar.muli v24 c1_i32_1219
  let v1321 : BitVec 32 := Scalar.addi c0_i32_1220 v1320
  v1321.toNat
def k0_dev34 (d0 : Dev nD) : Nat :=
  let c0_i32_1258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1257 : BitVec 32 := 1#32
  let v1363 : BitVec 32 := Scalar.muli v13 c1_i32_1257
  let v1364 : BitVec 32 := Scalar.addi c0_i32_1258 v1363
  v1364.toNat
def k0_dev35 (d0 : Dev nD) : Nat :=
  let c0_i32_1261 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1260 : BitVec 32 := 1#32
  let v1365 : BitVec 32 := Scalar.muli v24 c1_i32_1260
  let v1366 : BitVec 32 := Scalar.addi c0_i32_1261 v1365
  v1366.toNat
def k0_off3 (d0 : Dev nD) (c0_i32_1304 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1415 : BitVec 32 := Scalar.subi v2 c0_i32_1304
  let c32_i32_1305 : BitVec 32 := 32#32
  let c0_i32_1306 : BitVec 32 := 0#32
  let v1416 : BitVec 1 := Scalar.cmpi .eq c32_i32_1305 c0_i32_1306
  let c1_i32_1307 : BitVec 32 := 1#32
  let v1417 : BitVec 32 := Scalar.select v1416 c1_i32_1307 c32_i32_1305
  let v1418 : BitVec 32 := Scalar.remsi v1415 v1417
  let c0_i32_1309 : BitVec 32 := 0#32
  let v1420 : BitVec 1 := Scalar.cmpi .slt v1418 c0_i32_1309
  let c0_i32_1310 : BitVec 32 := 0#32
  let v1421 : BitVec 1 := Scalar.cmpi .slt v1417 c0_i32_1310
  let v1422 : BitVec 1 := Scalar.xori v1420 v1421
  let c0_i32_1308 : BitVec 32 := 0#32
  let v1419 : BitVec 1 := Scalar.cmpi .ne v1418 c0_i32_1308
  let v1423 : BitVec 1 := Scalar.andi v1422 v1419
  let v1424 : BitVec 32 := Scalar.addi v1418 v1417
  let v1425 : BitVec 32 := Scalar.select v1423 v1424 v1418
  let c128_i32_1311 : BitVec 32 := 128#32
  let v1426 : BitVec 32 := Scalar.muli v1425 c128_i32_1311
  let c0_i32_1319 : BitVec 32 := 0#32
  ![v1426.toNat, 0]
def k0_dev36 (d0 : Dev nD) : Nat :=
  let c0_i32_1316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1315 : BitVec 32 := 1#32
  let v1427 : BitVec 32 := Scalar.muli v24 c1_i32_1315
  let v1428 : BitVec 32 := Scalar.addi c0_i32_1316 v1427
  v1428.toNat
def k0_dev37 (d0 : Dev nD) : Nat :=
  let c0_i32_1361 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1360 : BitVec 32 := 1#32
  let v1482 : BitVec 32 := Scalar.muli v24 c1_i32_1360
  let v1483 : BitVec 32 := Scalar.addi c0_i32_1361 v1482
  v1483.toNat
def k0_dev38 (d0 : Dev nD) : Nat :=
  let c0_i32_1406 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1405 : BitVec 32 := 1#32
  let v1537 : BitVec 32 := Scalar.muli v24 c1_i32_1405
  let v1538 : BitVec 32 := Scalar.addi c0_i32_1406 v1537
  v1538.toNat
def k0_dev39 (d0 : Dev nD) : Nat :=
  let c0_i32_1451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1450 : BitVec 32 := 1#32
  let v1592 : BitVec 32 := Scalar.muli v24 c1_i32_1450
  let v1593 : BitVec 32 := Scalar.addi c0_i32_1451 v1592
  v1593.toNat
def k0_dev40 (d0 : Dev nD) : Nat :=
  let c0_i32_1496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1495 : BitVec 32 := 1#32
  let v1647 : BitVec 32 := Scalar.muli v24 c1_i32_1495
  let v1648 : BitVec 32 := Scalar.addi c0_i32_1496 v1647
  v1648.toNat
def k0_dev41 (d0 : Dev nD) : Nat :=
  let c0_i32_1541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1540 : BitVec 32 := 1#32
  let v1702 : BitVec 32 := Scalar.muli v24 c1_i32_1540
  let v1703 : BitVec 32 := Scalar.addi c0_i32_1541 v1702
  v1703.toNat
def k0_dev42 (d0 : Dev nD) : Nat :=
  let c0_i32_1586 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1585 : BitVec 32 := 1#32
  let v1757 : BitVec 32 := Scalar.muli v24 c1_i32_1585
  let v1758 : BitVec 32 := Scalar.addi c0_i32_1586 v1757
  v1758.toNat
def k0_dev43 (d0 : Dev nD) : Nat :=
  let c0_i32_1631 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1630 : BitVec 32 := 1#32
  let v1812 : BitVec 32 := Scalar.muli v24 c1_i32_1630
  let v1813 : BitVec 32 := Scalar.addi c0_i32_1631 v1812
  v1813.toNat
def k0_dev44 (d0 : Dev nD) : Nat :=
  let c0_i32_1676 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1675 : BitVec 32 := 1#32
  let v1867 : BitVec 32 := Scalar.muli v24 c1_i32_1675
  let v1868 : BitVec 32 := Scalar.addi c0_i32_1676 v1867
  v1868.toNat
def k0_dev45 (d0 : Dev nD) : Nat :=
  let c0_i32_1721 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1720 : BitVec 32 := 1#32
  let v1922 : BitVec 32 := Scalar.muli v24 c1_i32_1720
  let v1923 : BitVec 32 := Scalar.addi c0_i32_1721 v1922
  v1923.toNat
def k0_dev46 (d0 : Dev nD) : Nat :=
  let c0_i32_1766 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1765 : BitVec 32 := 1#32
  let v1977 : BitVec 32 := Scalar.muli v24 c1_i32_1765
  let v1978 : BitVec 32 := Scalar.addi c0_i32_1766 v1977
  v1978.toNat
def k0_dev47 (d0 : Dev nD) : Nat :=
  let c0_i32_1811 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1810 : BitVec 32 := 1#32
  let v2032 : BitVec 32 := Scalar.muli v24 c1_i32_1810
  let v2033 : BitVec 32 := Scalar.addi c0_i32_1811 v2032
  v2033.toNat
def k0_dev48 (d0 : Dev nD) : Nat :=
  let c0_i32_1856 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1855 : BitVec 32 := 1#32
  let v2087 : BitVec 32 := Scalar.muli v24 c1_i32_1855
  let v2088 : BitVec 32 := Scalar.addi c0_i32_1856 v2087
  v2088.toNat
def k0_dev49 (d0 : Dev nD) : Nat :=
  let c0_i32_1901 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1900 : BitVec 32 := 1#32
  let v2142 : BitVec 32 := Scalar.muli v24 c1_i32_1900
  let v2143 : BitVec 32 := Scalar.addi c0_i32_1901 v2142
  v2143.toNat
def k0_dev50 (d0 : Dev nD) : Nat :=
  let c0_i32_1946 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1945 : BitVec 32 := 1#32
  let v2197 : BitVec 32 := Scalar.muli v24 c1_i32_1945
  let v2198 : BitVec 32 := Scalar.addi c0_i32_1946 v2197
  v2198.toNat
def k0_dev51 (d0 : Dev nD) : Nat :=
  let c0_i32_1991 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1990 : BitVec 32 := 1#32
  let v2252 : BitVec 32 := Scalar.muli v24 c1_i32_1990
  let v2253 : BitVec 32 := Scalar.addi c0_i32_1991 v2252
  v2253.toNat
def k0_dev52 (d0 : Dev nD) : Nat :=
  let c0_i32_2036 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2035 : BitVec 32 := 1#32
  let v2307 : BitVec 32 := Scalar.muli v24 c1_i32_2035
  let v2308 : BitVec 32 := Scalar.addi c0_i32_2036 v2307
  v2308.toNat
def k0_dev53 (d0 : Dev nD) : Nat :=
  let c0_i32_2081 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2080 : BitVec 32 := 1#32
  let v2362 : BitVec 32 := Scalar.muli v24 c1_i32_2080
  let v2363 : BitVec 32 := Scalar.addi c0_i32_2081 v2362
  v2363.toNat
def k0_dev54 (d0 : Dev nD) : Nat :=
  let c0_i32_2126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2125 : BitVec 32 := 1#32
  let v2417 : BitVec 32 := Scalar.muli v24 c1_i32_2125
  let v2418 : BitVec 32 := Scalar.addi c0_i32_2126 v2417
  v2418.toNat
def k0_dev55 (d0 : Dev nD) : Nat :=
  let c0_i32_2171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2170 : BitVec 32 := 1#32
  let v2472 : BitVec 32 := Scalar.muli v24 c1_i32_2170
  let v2473 : BitVec 32 := Scalar.addi c0_i32_2171 v2472
  v2473.toNat
def k0_dev56 (d0 : Dev nD) : Nat :=
  let c0_i32_2216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2215 : BitVec 32 := 1#32
  let v2527 : BitVec 32 := Scalar.muli v24 c1_i32_2215
  let v2528 : BitVec 32 := Scalar.addi c0_i32_2216 v2527
  v2528.toNat
def k0_dev57 (d0 : Dev nD) : Nat :=
  let c0_i32_2261 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2260 : BitVec 32 := 1#32
  let v2582 : BitVec 32 := Scalar.muli v24 c1_i32_2260
  let v2583 : BitVec 32 := Scalar.addi c0_i32_2261 v2582
  v2583.toNat
def k0_dev58 (d0 : Dev nD) : Nat :=
  let c0_i32_2306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2305 : BitVec 32 := 1#32
  let v2637 : BitVec 32 := Scalar.muli v24 c1_i32_2305
  let v2638 : BitVec 32 := Scalar.addi c0_i32_2306 v2637
  v2638.toNat
def k0_dev59 (d0 : Dev nD) : Nat :=
  let c0_i32_2351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2350 : BitVec 32 := 1#32
  let v2692 : BitVec 32 := Scalar.muli v24 c1_i32_2350
  let v2693 : BitVec 32 := Scalar.addi c0_i32_2351 v2692
  v2693.toNat
def k0_dev60 (d0 : Dev nD) : Nat :=
  let c0_i32_2396 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2395 : BitVec 32 := 1#32
  let v2747 : BitVec 32 := Scalar.muli v24 c1_i32_2395
  let v2748 : BitVec 32 := Scalar.addi c0_i32_2396 v2747
  v2748.toNat
def k0_dev61 (d0 : Dev nD) : Nat :=
  let c0_i32_2441 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2440 : BitVec 32 := 1#32
  let v2802 : BitVec 32 := Scalar.muli v24 c1_i32_2440
  let v2803 : BitVec 32 := Scalar.addi c0_i32_2441 v2802
  v2803.toNat
def k0_dev62 (d0 : Dev nD) : Nat :=
  let c0_i32_2486 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2485 : BitVec 32 := 1#32
  let v2857 : BitVec 32 := Scalar.muli v24 c1_i32_2485
  let v2858 : BitVec 32 := Scalar.addi c0_i32_2486 v2857
  v2858.toNat
def k0_dev63 (d0 : Dev nD) : Nat :=
  let c0_i32_2531 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2530 : BitVec 32 := 1#32
  let v2912 : BitVec 32 := Scalar.muli v24 c1_i32_2530
  let v2913 : BitVec 32 := Scalar.addi c0_i32_2531 v2912
  v2913.toNat
def k0_dev64 (d0 : Dev nD) : Nat :=
  let c0_i32_2576 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2575 : BitVec 32 := 1#32
  let v2967 : BitVec 32 := Scalar.muli v24 c1_i32_2575
  let v2968 : BitVec 32 := Scalar.addi c0_i32_2576 v2967
  v2968.toNat
def k0_dev65 (d0 : Dev nD) : Nat :=
  let c0_i32_2621 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2620 : BitVec 32 := 1#32
  let v3022 : BitVec 32 := Scalar.muli v24 c1_i32_2620
  let v3023 : BitVec 32 := Scalar.addi c0_i32_2621 v3022
  v3023.toNat
def k0_dev66 (d0 : Dev nD) : Nat :=
  let c0_i32_2666 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2665 : BitVec 32 := 1#32
  let v3077 : BitVec 32 := Scalar.muli v24 c1_i32_2665
  let v3078 : BitVec 32 := Scalar.addi c0_i32_2666 v3077
  v3078.toNat
def k0_dev67 (d0 : Dev nD) : Nat :=
  let c0_i32_2701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2700 : BitVec 32 := 1#32
  let v3120 : BitVec 32 := Scalar.muli v13 c1_i32_2700
  let v3121 : BitVec 32 := Scalar.addi c0_i32_2701 v3120
  v3121.toNat
def k0_dev68 (d0 : Dev nD) : Nat :=
  let c0_i32_2704 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2703 : BitVec 32 := 1#32
  let v3122 : BitVec 32 := Scalar.muli v24 c1_i32_2703
  let v3123 : BitVec 32 := Scalar.addi c0_i32_2704 v3122
  v3123.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2707 : BitVec 32 := 1#32
  let v3124 : BitVec 32 := Scalar.addi v2 c1_i32_2707
  let c32_i32_2708 : BitVec 32 := 32#32
  let c0_i32_2709 : BitVec 32 := 0#32
  let v3125 : BitVec 1 := Scalar.cmpi .eq c32_i32_2708 c0_i32_2709
  let c1_i32_2710 : BitVec 32 := 1#32
  let v3126 : BitVec 32 := Scalar.select v3125 c1_i32_2710 c32_i32_2708
  let v3127 : BitVec 32 := Scalar.remsi v3124 v3126
  let c0_i32_2712 : BitVec 32 := 0#32
  let v3129 : BitVec 1 := Scalar.cmpi .slt v3127 c0_i32_2712
  let c0_i32_2713 : BitVec 32 := 0#32
  let v3130 : BitVec 1 := Scalar.cmpi .slt v3126 c0_i32_2713
  let v3131 : BitVec 1 := Scalar.xori v3129 v3130
  let c0_i32_2711 : BitVec 32 := 0#32
  let v3128 : BitVec 1 := Scalar.cmpi .ne v3127 c0_i32_2711
  let v3132 : BitVec 1 := Scalar.andi v3131 v3128
  let v3133 : BitVec 32 := Scalar.addi v3127 v3126
  let v3134 : BitVec 32 := Scalar.select v3132 v3133 v3127
  let c128_i32_2714 : BitVec 32 := 128#32
  let v3135 : BitVec 32 := Scalar.muli v3134 c128_i32_2714
  let v3136 : Index := Scalar.indexCast v3135
  let c0_2715 : Index := 0#32
  ![v3136.toNat, 0]
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2707 : BitVec 32 := 1#32
  let v3124 : BitVec 32 := Scalar.addi v2 c1_i32_2707
  let c32_i32_2708 : BitVec 32 := 32#32
  let c0_i32_2709 : BitVec 32 := 0#32
  let v3125 : BitVec 1 := Scalar.cmpi .eq c32_i32_2708 c0_i32_2709
  let c1_i32_2710 : BitVec 32 := 1#32
  let v3126 : BitVec 32 := Scalar.select v3125 c1_i32_2710 c32_i32_2708
  let v3127 : BitVec 32 := Scalar.remsi v3124 v3126
  let c0_i32_2712 : BitVec 32 := 0#32
  let v3129 : BitVec 1 := Scalar.cmpi .slt v3127 c0_i32_2712
  let c0_i32_2713 : BitVec 32 := 0#32
  let v3130 : BitVec 1 := Scalar.cmpi .slt v3126 c0_i32_2713
  let v3131 : BitVec 1 := Scalar.xori v3129 v3130
  let c0_i32_2711 : BitVec 32 := 0#32
  let v3128 : BitVec 1 := Scalar.cmpi .ne v3127 c0_i32_2711
  let v3132 : BitVec 1 := Scalar.andi v3131 v3128
  let v3133 : BitVec 32 := Scalar.addi v3127 v3126
  let v3134 : BitVec 32 := Scalar.select v3132 v3133 v3127
  let c128_i32_2718 : BitVec 32 := 128#32
  let v3143 : BitVec 32 := Scalar.muli v3134 c128_i32_2718
  let c0_i32_2726 : BitVec 32 := 0#32
  ![v3143.toNat, 0]
def k0_dev69 (d0 : Dev nD) : Nat :=
  let c0_i32_2723 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2722 : BitVec 32 := 1#32
  let v3144 : BitVec 32 := Scalar.muli v24 c1_i32_2722
  let v3145 : BitVec 32 := Scalar.addi c0_i32_2723 v3144
  v3145.toNat
def k0_off6 (d0 : Dev nD) (c0_i32_2742 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3165 : BitVec 32 := Scalar.subi v2 c0_i32_2742
  let c32_i32_2743 : BitVec 32 := 32#32
  let c0_i32_2744 : BitVec 32 := 0#32
  let v3166 : BitVec 1 := Scalar.cmpi .eq c32_i32_2743 c0_i32_2744
  let c1_i32_2745 : BitVec 32 := 1#32
  let v3167 : BitVec 32 := Scalar.select v3166 c1_i32_2745 c32_i32_2743
  let v3168 : BitVec 32 := Scalar.remsi v3165 v3167
  let c0_i32_2747 : BitVec 32 := 0#32
  let v3170 : BitVec 1 := Scalar.cmpi .slt v3168 c0_i32_2747
  let c0_i32_2748 : BitVec 32 := 0#32
  let v3171 : BitVec 1 := Scalar.cmpi .slt v3167 c0_i32_2748
  let v3172 : BitVec 1 := Scalar.xori v3170 v3171
  let c0_i32_2746 : BitVec 32 := 0#32
  let v3169 : BitVec 1 := Scalar.cmpi .ne v3168 c0_i32_2746
  let v3173 : BitVec 1 := Scalar.andi v3172 v3169
  let v3174 : BitVec 32 := Scalar.addi v3168 v3167
  let v3175 : BitVec 32 := Scalar.select v3173 v3174 v3168
  let c128_i32_2752 : BitVec 32 := 128#32
  let v3178 : BitVec 32 := Scalar.muli v3175 c128_i32_2752
  let v3179 : Index := Scalar.indexCast v3178
  let c0_2753 : Index := 0#32
  ![v3179.toNat, 0]
def k0_dev70 (d0 : Dev nD) : Nat :=
  let c0_i32_2759 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2758 : BitVec 32 := 1#32
  let v3183 : BitVec 32 := Scalar.muli v24 c1_i32_2758
  let v3184 : BitVec 32 := Scalar.addi c0_i32_2759 v3183
  v3184.toNat
def k0_dev71 (d0 : Dev nD) : Nat :=
  let c0_i32_2800 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2799 : BitVec 32 := 1#32
  let v3225 : BitVec 32 := Scalar.muli v24 c1_i32_2799
  let v3226 : BitVec 32 := Scalar.addi c0_i32_2800 v3225
  v3226.toNat
def k0_dev72 (d0 : Dev nD) : Nat :=
  let c0_i32_2841 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2840 : BitVec 32 := 1#32
  let v3267 : BitVec 32 := Scalar.muli v24 c1_i32_2840
  let v3268 : BitVec 32 := Scalar.addi c0_i32_2841 v3267
  v3268.toNat
def k0_dev73 (d0 : Dev nD) : Nat :=
  let c0_i32_2882 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2881 : BitVec 32 := 1#32
  let v3309 : BitVec 32 := Scalar.muli v24 c1_i32_2881
  let v3310 : BitVec 32 := Scalar.addi c0_i32_2882 v3309
  v3310.toNat
def k0_dev74 (d0 : Dev nD) : Nat :=
  let c0_i32_2923 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2922 : BitVec 32 := 1#32
  let v3351 : BitVec 32 := Scalar.muli v24 c1_i32_2922
  let v3352 : BitVec 32 := Scalar.addi c0_i32_2923 v3351
  v3352.toNat
def k0_dev75 (d0 : Dev nD) : Nat :=
  let c0_i32_2964 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2963 : BitVec 32 := 1#32
  let v3393 : BitVec 32 := Scalar.muli v24 c1_i32_2963
  let v3394 : BitVec 32 := Scalar.addi c0_i32_2964 v3393
  v3394.toNat
def k0_dev76 (d0 : Dev nD) : Nat :=
  let c0_i32_3005 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3004 : BitVec 32 := 1#32
  let v3435 : BitVec 32 := Scalar.muli v24 c1_i32_3004
  let v3436 : BitVec 32 := Scalar.addi c0_i32_3005 v3435
  v3436.toNat
def k0_dev77 (d0 : Dev nD) : Nat :=
  let c0_i32_3046 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3045 : BitVec 32 := 1#32
  let v3477 : BitVec 32 := Scalar.muli v24 c1_i32_3045
  let v3478 : BitVec 32 := Scalar.addi c0_i32_3046 v3477
  v3478.toNat
def k0_dev78 (d0 : Dev nD) : Nat :=
  let c0_i32_3087 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3086 : BitVec 32 := 1#32
  let v3519 : BitVec 32 := Scalar.muli v24 c1_i32_3086
  let v3520 : BitVec 32 := Scalar.addi c0_i32_3087 v3519
  v3520.toNat
def k0_dev79 (d0 : Dev nD) : Nat :=
  let c0_i32_3128 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3127 : BitVec 32 := 1#32
  let v3561 : BitVec 32 := Scalar.muli v24 c1_i32_3127
  let v3562 : BitVec 32 := Scalar.addi c0_i32_3128 v3561
  v3562.toNat
def k0_dev80 (d0 : Dev nD) : Nat :=
  let c0_i32_3169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3168 : BitVec 32 := 1#32
  let v3603 : BitVec 32 := Scalar.muli v24 c1_i32_3168
  let v3604 : BitVec 32 := Scalar.addi c0_i32_3169 v3603
  v3604.toNat
def k0_dev81 (d0 : Dev nD) : Nat :=
  let c0_i32_3210 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3209 : BitVec 32 := 1#32
  let v3645 : BitVec 32 := Scalar.muli v24 c1_i32_3209
  let v3646 : BitVec 32 := Scalar.addi c0_i32_3210 v3645
  v3646.toNat
def k0_dev82 (d0 : Dev nD) : Nat :=
  let c0_i32_3251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3250 : BitVec 32 := 1#32
  let v3687 : BitVec 32 := Scalar.muli v24 c1_i32_3250
  let v3688 : BitVec 32 := Scalar.addi c0_i32_3251 v3687
  v3688.toNat
def k0_dev83 (d0 : Dev nD) : Nat :=
  let c0_i32_3292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3291 : BitVec 32 := 1#32
  let v3729 : BitVec 32 := Scalar.muli v24 c1_i32_3291
  let v3730 : BitVec 32 := Scalar.addi c0_i32_3292 v3729
  v3730.toNat
def k0_dev84 (d0 : Dev nD) : Nat :=
  let c0_i32_3333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3332 : BitVec 32 := 1#32
  let v3771 : BitVec 32 := Scalar.muli v24 c1_i32_3332
  let v3772 : BitVec 32 := Scalar.addi c0_i32_3333 v3771
  v3772.toNat
def k0_dev85 (d0 : Dev nD) : Nat :=
  let c0_i32_3374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3373 : BitVec 32 := 1#32
  let v3813 : BitVec 32 := Scalar.muli v24 c1_i32_3373
  let v3814 : BitVec 32 := Scalar.addi c0_i32_3374 v3813
  v3814.toNat
def k0_dev86 (d0 : Dev nD) : Nat :=
  let c0_i32_3415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3414 : BitVec 32 := 1#32
  let v3855 : BitVec 32 := Scalar.muli v24 c1_i32_3414
  let v3856 : BitVec 32 := Scalar.addi c0_i32_3415 v3855
  v3856.toNat
def k0_dev87 (d0 : Dev nD) : Nat :=
  let c0_i32_3456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3455 : BitVec 32 := 1#32
  let v3897 : BitVec 32 := Scalar.muli v24 c1_i32_3455
  let v3898 : BitVec 32 := Scalar.addi c0_i32_3456 v3897
  v3898.toNat
def k0_dev88 (d0 : Dev nD) : Nat :=
  let c0_i32_3497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3496 : BitVec 32 := 1#32
  let v3939 : BitVec 32 := Scalar.muli v24 c1_i32_3496
  let v3940 : BitVec 32 := Scalar.addi c0_i32_3497 v3939
  v3940.toNat
def k0_dev89 (d0 : Dev nD) : Nat :=
  let c0_i32_3538 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3537 : BitVec 32 := 1#32
  let v3981 : BitVec 32 := Scalar.muli v24 c1_i32_3537
  let v3982 : BitVec 32 := Scalar.addi c0_i32_3538 v3981
  v3982.toNat
def k0_dev90 (d0 : Dev nD) : Nat :=
  let c0_i32_3579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3578 : BitVec 32 := 1#32
  let v4023 : BitVec 32 := Scalar.muli v24 c1_i32_3578
  let v4024 : BitVec 32 := Scalar.addi c0_i32_3579 v4023
  v4024.toNat
def k0_dev91 (d0 : Dev nD) : Nat :=
  let c0_i32_3620 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3619 : BitVec 32 := 1#32
  let v4065 : BitVec 32 := Scalar.muli v24 c1_i32_3619
  let v4066 : BitVec 32 := Scalar.addi c0_i32_3620 v4065
  v4066.toNat
def k0_dev92 (d0 : Dev nD) : Nat :=
  let c0_i32_3661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3660 : BitVec 32 := 1#32
  let v4107 : BitVec 32 := Scalar.muli v24 c1_i32_3660
  let v4108 : BitVec 32 := Scalar.addi c0_i32_3661 v4107
  v4108.toNat
def k0_dev93 (d0 : Dev nD) : Nat :=
  let c0_i32_3702 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3701 : BitVec 32 := 1#32
  let v4149 : BitVec 32 := Scalar.muli v24 c1_i32_3701
  let v4150 : BitVec 32 := Scalar.addi c0_i32_3702 v4149
  v4150.toNat
def k0_dev94 (d0 : Dev nD) : Nat :=
  let c0_i32_3743 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3742 : BitVec 32 := 1#32
  let v4191 : BitVec 32 := Scalar.muli v24 c1_i32_3742
  let v4192 : BitVec 32 := Scalar.addi c0_i32_3743 v4191
  v4192.toNat
def k0_dev95 (d0 : Dev nD) : Nat :=
  let c0_i32_3784 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3783 : BitVec 32 := 1#32
  let v4233 : BitVec 32 := Scalar.muli v24 c1_i32_3783
  let v4234 : BitVec 32 := Scalar.addi c0_i32_3784 v4233
  v4234.toNat
def k0_dev96 (d0 : Dev nD) : Nat :=
  let c0_i32_3825 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3824 : BitVec 32 := 1#32
  let v4275 : BitVec 32 := Scalar.muli v24 c1_i32_3824
  let v4276 : BitVec 32 := Scalar.addi c0_i32_3825 v4275
  v4276.toNat
def k0_dev97 (d0 : Dev nD) : Nat :=
  let c0_i32_3866 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3865 : BitVec 32 := 1#32
  let v4317 : BitVec 32 := Scalar.muli v24 c1_i32_3865
  let v4318 : BitVec 32 := Scalar.addi c0_i32_3866 v4317
  v4318.toNat
def k0_dev98 (d0 : Dev nD) : Nat :=
  let c0_i32_3907 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3906 : BitVec 32 := 1#32
  let v4359 : BitVec 32 := Scalar.muli v24 c1_i32_3906
  let v4360 : BitVec 32 := Scalar.addi c0_i32_3907 v4359
  v4360.toNat
def k0_dev99 (d0 : Dev nD) : Nat :=
  let c0_i32_3948 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3947 : BitVec 32 := 1#32
  let v4401 : BitVec 32 := Scalar.muli v24 c1_i32_3947
  let v4402 : BitVec 32 := Scalar.addi c0_i32_3948 v4401
  v4402.toNat
def k0_dev100 (d0 : Dev nD) : Nat :=
  let c0_i32_3986 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3985 : BitVec 32 := 1#32
  let v4443 : BitVec 32 := Scalar.muli v13 c1_i32_3985
  let v4444 : BitVec 32 := Scalar.addi c0_i32_3986 v4443
  v4444.toNat
def k0_dev101 (d0 : Dev nD) : Nat :=
  let c0_i32_3989 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3988 : BitVec 32 := 1#32
  let v4445 : BitVec 32 := Scalar.muli v24 c1_i32_3988
  let v4446 : BitVec 32 := Scalar.addi c0_i32_3989 v4445
  v4446.toNat
def k0_dev102 (d0 : Dev nD) : Nat :=
  let c0_i32_4048 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4047 : BitVec 32 := 1#32
  let v4507 : BitVec 32 := Scalar.muli v24 c1_i32_4047
  let v4508 : BitVec 32 := Scalar.addi c0_i32_4048 v4507
  v4508.toNat
def k0_dev103 (d0 : Dev nD) : Nat :=
  let c0_i32_4093 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4092 : BitVec 32 := 1#32
  let v4562 : BitVec 32 := Scalar.muli v24 c1_i32_4092
  let v4563 : BitVec 32 := Scalar.addi c0_i32_4093 v4562
  v4563.toNat
def k0_dev104 (d0 : Dev nD) : Nat :=
  let c0_i32_4138 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4137 : BitVec 32 := 1#32
  let v4617 : BitVec 32 := Scalar.muli v24 c1_i32_4137
  let v4618 : BitVec 32 := Scalar.addi c0_i32_4138 v4617
  v4618.toNat
def k0_dev105 (d0 : Dev nD) : Nat :=
  let c0_i32_4183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4182 : BitVec 32 := 1#32
  let v4672 : BitVec 32 := Scalar.muli v24 c1_i32_4182
  let v4673 : BitVec 32 := Scalar.addi c0_i32_4183 v4672
  v4673.toNat
def k0_dev106 (d0 : Dev nD) : Nat :=
  let c0_i32_4228 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4227 : BitVec 32 := 1#32
  let v4727 : BitVec 32 := Scalar.muli v24 c1_i32_4227
  let v4728 : BitVec 32 := Scalar.addi c0_i32_4228 v4727
  v4728.toNat
def k0_dev107 (d0 : Dev nD) : Nat :=
  let c0_i32_4273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4272 : BitVec 32 := 1#32
  let v4782 : BitVec 32 := Scalar.muli v24 c1_i32_4272
  let v4783 : BitVec 32 := Scalar.addi c0_i32_4273 v4782
  v4783.toNat
def k0_dev108 (d0 : Dev nD) : Nat :=
  let c0_i32_4318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4317 : BitVec 32 := 1#32
  let v4837 : BitVec 32 := Scalar.muli v24 c1_i32_4317
  let v4838 : BitVec 32 := Scalar.addi c0_i32_4318 v4837
  v4838.toNat
def k0_dev109 (d0 : Dev nD) : Nat :=
  let c0_i32_4363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4362 : BitVec 32 := 1#32
  let v4892 : BitVec 32 := Scalar.muli v24 c1_i32_4362
  let v4893 : BitVec 32 := Scalar.addi c0_i32_4363 v4892
  v4893.toNat
def k0_dev110 (d0 : Dev nD) : Nat :=
  let c0_i32_4408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4407 : BitVec 32 := 1#32
  let v4947 : BitVec 32 := Scalar.muli v24 c1_i32_4407
  let v4948 : BitVec 32 := Scalar.addi c0_i32_4408 v4947
  v4948.toNat
def k0_dev111 (d0 : Dev nD) : Nat :=
  let c0_i32_4453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4452 : BitVec 32 := 1#32
  let v5002 : BitVec 32 := Scalar.muli v24 c1_i32_4452
  let v5003 : BitVec 32 := Scalar.addi c0_i32_4453 v5002
  v5003.toNat
def k0_dev112 (d0 : Dev nD) : Nat :=
  let c0_i32_4498 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4497 : BitVec 32 := 1#32
  let v5057 : BitVec 32 := Scalar.muli v24 c1_i32_4497
  let v5058 : BitVec 32 := Scalar.addi c0_i32_4498 v5057
  v5058.toNat
def k0_dev113 (d0 : Dev nD) : Nat :=
  let c0_i32_4543 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4542 : BitVec 32 := 1#32
  let v5112 : BitVec 32 := Scalar.muli v24 c1_i32_4542
  let v5113 : BitVec 32 := Scalar.addi c0_i32_4543 v5112
  v5113.toNat
def k0_dev114 (d0 : Dev nD) : Nat :=
  let c0_i32_4588 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4587 : BitVec 32 := 1#32
  let v5167 : BitVec 32 := Scalar.muli v24 c1_i32_4587
  let v5168 : BitVec 32 := Scalar.addi c0_i32_4588 v5167
  v5168.toNat
def k0_dev115 (d0 : Dev nD) : Nat :=
  let c0_i32_4633 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4632 : BitVec 32 := 1#32
  let v5222 : BitVec 32 := Scalar.muli v24 c1_i32_4632
  let v5223 : BitVec 32 := Scalar.addi c0_i32_4633 v5222
  v5223.toNat
def k0_dev116 (d0 : Dev nD) : Nat :=
  let c0_i32_4678 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4677 : BitVec 32 := 1#32
  let v5277 : BitVec 32 := Scalar.muli v24 c1_i32_4677
  let v5278 : BitVec 32 := Scalar.addi c0_i32_4678 v5277
  v5278.toNat
def k0_dev117 (d0 : Dev nD) : Nat :=
  let c0_i32_4723 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4722 : BitVec 32 := 1#32
  let v5332 : BitVec 32 := Scalar.muli v24 c1_i32_4722
  let v5333 : BitVec 32 := Scalar.addi c0_i32_4723 v5332
  v5333.toNat
def k0_dev118 (d0 : Dev nD) : Nat :=
  let c0_i32_4768 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4767 : BitVec 32 := 1#32
  let v5387 : BitVec 32 := Scalar.muli v24 c1_i32_4767
  let v5388 : BitVec 32 := Scalar.addi c0_i32_4768 v5387
  v5388.toNat
def k0_dev119 (d0 : Dev nD) : Nat :=
  let c0_i32_4813 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4812 : BitVec 32 := 1#32
  let v5442 : BitVec 32 := Scalar.muli v24 c1_i32_4812
  let v5443 : BitVec 32 := Scalar.addi c0_i32_4813 v5442
  v5443.toNat
def k0_dev120 (d0 : Dev nD) : Nat :=
  let c0_i32_4858 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4857 : BitVec 32 := 1#32
  let v5497 : BitVec 32 := Scalar.muli v24 c1_i32_4857
  let v5498 : BitVec 32 := Scalar.addi c0_i32_4858 v5497
  v5498.toNat
def k0_dev121 (d0 : Dev nD) : Nat :=
  let c0_i32_4903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4902 : BitVec 32 := 1#32
  let v5552 : BitVec 32 := Scalar.muli v24 c1_i32_4902
  let v5553 : BitVec 32 := Scalar.addi c0_i32_4903 v5552
  v5553.toNat
def k0_dev122 (d0 : Dev nD) : Nat :=
  let c0_i32_4948 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4947 : BitVec 32 := 1#32
  let v5607 : BitVec 32 := Scalar.muli v24 c1_i32_4947
  let v5608 : BitVec 32 := Scalar.addi c0_i32_4948 v5607
  v5608.toNat
def k0_dev123 (d0 : Dev nD) : Nat :=
  let c0_i32_4993 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4992 : BitVec 32 := 1#32
  let v5662 : BitVec 32 := Scalar.muli v24 c1_i32_4992
  let v5663 : BitVec 32 := Scalar.addi c0_i32_4993 v5662
  v5663.toNat
def k0_dev124 (d0 : Dev nD) : Nat :=
  let c0_i32_5038 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5037 : BitVec 32 := 1#32
  let v5717 : BitVec 32 := Scalar.muli v24 c1_i32_5037
  let v5718 : BitVec 32 := Scalar.addi c0_i32_5038 v5717
  v5718.toNat
def k0_dev125 (d0 : Dev nD) : Nat :=
  let c0_i32_5083 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5082 : BitVec 32 := 1#32
  let v5772 : BitVec 32 := Scalar.muli v24 c1_i32_5082
  let v5773 : BitVec 32 := Scalar.addi c0_i32_5083 v5772
  v5773.toNat
def k0_dev126 (d0 : Dev nD) : Nat :=
  let c0_i32_5128 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5127 : BitVec 32 := 1#32
  let v5827 : BitVec 32 := Scalar.muli v24 c1_i32_5127
  let v5828 : BitVec 32 := Scalar.addi c0_i32_5128 v5827
  v5828.toNat
def k0_dev127 (d0 : Dev nD) : Nat :=
  let c0_i32_5173 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5172 : BitVec 32 := 1#32
  let v5882 : BitVec 32 := Scalar.muli v24 c1_i32_5172
  let v5883 : BitVec 32 := Scalar.addi c0_i32_5173 v5882
  v5883.toNat
def k0_dev128 (d0 : Dev nD) : Nat :=
  let c0_i32_5218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5217 : BitVec 32 := 1#32
  let v5937 : BitVec 32 := Scalar.muli v24 c1_i32_5217
  let v5938 : BitVec 32 := Scalar.addi c0_i32_5218 v5937
  v5938.toNat
def k0_dev129 (d0 : Dev nD) : Nat :=
  let c0_i32_5263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5262 : BitVec 32 := 1#32
  let v5992 : BitVec 32 := Scalar.muli v24 c1_i32_5262
  let v5993 : BitVec 32 := Scalar.addi c0_i32_5263 v5992
  v5993.toNat
def k0_dev130 (d0 : Dev nD) : Nat :=
  let c0_i32_5308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5307 : BitVec 32 := 1#32
  let v6047 : BitVec 32 := Scalar.muli v24 c1_i32_5307
  let v6048 : BitVec 32 := Scalar.addi c0_i32_5308 v6047
  v6048.toNat
def k0_dev131 (d0 : Dev nD) : Nat :=
  let c0_i32_5353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5352 : BitVec 32 := 1#32
  let v6102 : BitVec 32 := Scalar.muli v24 c1_i32_5352
  let v6103 : BitVec 32 := Scalar.addi c0_i32_5353 v6102
  v6103.toNat
def k0_dev132 (d0 : Dev nD) : Nat :=
  let c0_i32_5398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5397 : BitVec 32 := 1#32
  let v6157 : BitVec 32 := Scalar.muli v24 c1_i32_5397
  let v6158 : BitVec 32 := Scalar.addi c0_i32_5398 v6157
  v6158.toNat
def k0_dev133 (d0 : Dev nD) : Nat :=
  let c0_i32_5433 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5432 : BitVec 32 := 1#32
  let v6200 : BitVec 32 := Scalar.muli v13 c1_i32_5432
  let v6201 : BitVec 32 := Scalar.addi c0_i32_5433 v6200
  v6201.toNat
def k0_dev134 (d0 : Dev nD) : Nat :=
  let c0_i32_5436 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5435 : BitVec 32 := 1#32
  let v6202 : BitVec 32 := Scalar.muli v24 c1_i32_5435
  let v6203 : BitVec 32 := Scalar.addi c0_i32_5436 v6202
  v6203.toNat
def k0_dev135 (d0 : Dev nD) : Nat :=
  let c0_i32_5455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5454 : BitVec 32 := 1#32
  let v6224 : BitVec 32 := Scalar.muli v24 c1_i32_5454
  let v6225 : BitVec 32 := Scalar.addi c0_i32_5455 v6224
  v6225.toNat
def k0_dev136 (d0 : Dev nD) : Nat :=
  let c0_i32_5491 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5490 : BitVec 32 := 1#32
  let v6263 : BitVec 32 := Scalar.muli v24 c1_i32_5490
  let v6264 : BitVec 32 := Scalar.addi c0_i32_5491 v6263
  v6264.toNat
def k0_dev137 (d0 : Dev nD) : Nat :=
  let c0_i32_5532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5531 : BitVec 32 := 1#32
  let v6305 : BitVec 32 := Scalar.muli v24 c1_i32_5531
  let v6306 : BitVec 32 := Scalar.addi c0_i32_5532 v6305
  v6306.toNat
def k0_dev138 (d0 : Dev nD) : Nat :=
  let c0_i32_5573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5572 : BitVec 32 := 1#32
  let v6347 : BitVec 32 := Scalar.muli v24 c1_i32_5572
  let v6348 : BitVec 32 := Scalar.addi c0_i32_5573 v6347
  v6348.toNat
def k0_dev139 (d0 : Dev nD) : Nat :=
  let c0_i32_5614 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5613 : BitVec 32 := 1#32
  let v6389 : BitVec 32 := Scalar.muli v24 c1_i32_5613
  let v6390 : BitVec 32 := Scalar.addi c0_i32_5614 v6389
  v6390.toNat
def k0_dev140 (d0 : Dev nD) : Nat :=
  let c0_i32_5655 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5654 : BitVec 32 := 1#32
  let v6431 : BitVec 32 := Scalar.muli v24 c1_i32_5654
  let v6432 : BitVec 32 := Scalar.addi c0_i32_5655 v6431
  v6432.toNat
def k0_dev141 (d0 : Dev nD) : Nat :=
  let c0_i32_5696 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5695 : BitVec 32 := 1#32
  let v6473 : BitVec 32 := Scalar.muli v24 c1_i32_5695
  let v6474 : BitVec 32 := Scalar.addi c0_i32_5696 v6473
  v6474.toNat
def k0_dev142 (d0 : Dev nD) : Nat :=
  let c0_i32_5737 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5736 : BitVec 32 := 1#32
  let v6515 : BitVec 32 := Scalar.muli v24 c1_i32_5736
  let v6516 : BitVec 32 := Scalar.addi c0_i32_5737 v6515
  v6516.toNat
def k0_dev143 (d0 : Dev nD) : Nat :=
  let c0_i32_5778 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5777 : BitVec 32 := 1#32
  let v6557 : BitVec 32 := Scalar.muli v24 c1_i32_5777
  let v6558 : BitVec 32 := Scalar.addi c0_i32_5778 v6557
  v6558.toNat
def k0_dev144 (d0 : Dev nD) : Nat :=
  let c0_i32_5819 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5818 : BitVec 32 := 1#32
  let v6599 : BitVec 32 := Scalar.muli v24 c1_i32_5818
  let v6600 : BitVec 32 := Scalar.addi c0_i32_5819 v6599
  v6600.toNat
def k0_dev145 (d0 : Dev nD) : Nat :=
  let c0_i32_5860 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5859 : BitVec 32 := 1#32
  let v6641 : BitVec 32 := Scalar.muli v24 c1_i32_5859
  let v6642 : BitVec 32 := Scalar.addi c0_i32_5860 v6641
  v6642.toNat
def k0_dev146 (d0 : Dev nD) : Nat :=
  let c0_i32_5901 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5900 : BitVec 32 := 1#32
  let v6683 : BitVec 32 := Scalar.muli v24 c1_i32_5900
  let v6684 : BitVec 32 := Scalar.addi c0_i32_5901 v6683
  v6684.toNat
def k0_dev147 (d0 : Dev nD) : Nat :=
  let c0_i32_5942 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5941 : BitVec 32 := 1#32
  let v6725 : BitVec 32 := Scalar.muli v24 c1_i32_5941
  let v6726 : BitVec 32 := Scalar.addi c0_i32_5942 v6725
  v6726.toNat
def k0_dev148 (d0 : Dev nD) : Nat :=
  let c0_i32_5983 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5982 : BitVec 32 := 1#32
  let v6767 : BitVec 32 := Scalar.muli v24 c1_i32_5982
  let v6768 : BitVec 32 := Scalar.addi c0_i32_5983 v6767
  v6768.toNat
def k0_dev149 (d0 : Dev nD) : Nat :=
  let c0_i32_6024 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6023 : BitVec 32 := 1#32
  let v6809 : BitVec 32 := Scalar.muli v24 c1_i32_6023
  let v6810 : BitVec 32 := Scalar.addi c0_i32_6024 v6809
  v6810.toNat
def k0_dev150 (d0 : Dev nD) : Nat :=
  let c0_i32_6065 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6064 : BitVec 32 := 1#32
  let v6851 : BitVec 32 := Scalar.muli v24 c1_i32_6064
  let v6852 : BitVec 32 := Scalar.addi c0_i32_6065 v6851
  v6852.toNat
def k0_dev151 (d0 : Dev nD) : Nat :=
  let c0_i32_6106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6105 : BitVec 32 := 1#32
  let v6893 : BitVec 32 := Scalar.muli v24 c1_i32_6105
  let v6894 : BitVec 32 := Scalar.addi c0_i32_6106 v6893
  v6894.toNat
def k0_dev152 (d0 : Dev nD) : Nat :=
  let c0_i32_6147 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6146 : BitVec 32 := 1#32
  let v6935 : BitVec 32 := Scalar.muli v24 c1_i32_6146
  let v6936 : BitVec 32 := Scalar.addi c0_i32_6147 v6935
  v6936.toNat
def k0_dev153 (d0 : Dev nD) : Nat :=
  let c0_i32_6188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6187 : BitVec 32 := 1#32
  let v6977 : BitVec 32 := Scalar.muli v24 c1_i32_6187
  let v6978 : BitVec 32 := Scalar.addi c0_i32_6188 v6977
  v6978.toNat
def k0_dev154 (d0 : Dev nD) : Nat :=
  let c0_i32_6229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6228 : BitVec 32 := 1#32
  let v7019 : BitVec 32 := Scalar.muli v24 c1_i32_6228
  let v7020 : BitVec 32 := Scalar.addi c0_i32_6229 v7019
  v7020.toNat
def k0_dev155 (d0 : Dev nD) : Nat :=
  let c0_i32_6270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6269 : BitVec 32 := 1#32
  let v7061 : BitVec 32 := Scalar.muli v24 c1_i32_6269
  let v7062 : BitVec 32 := Scalar.addi c0_i32_6270 v7061
  v7062.toNat
def k0_dev156 (d0 : Dev nD) : Nat :=
  let c0_i32_6311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6310 : BitVec 32 := 1#32
  let v7103 : BitVec 32 := Scalar.muli v24 c1_i32_6310
  let v7104 : BitVec 32 := Scalar.addi c0_i32_6311 v7103
  v7104.toNat
def k0_dev157 (d0 : Dev nD) : Nat :=
  let c0_i32_6352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6351 : BitVec 32 := 1#32
  let v7145 : BitVec 32 := Scalar.muli v24 c1_i32_6351
  let v7146 : BitVec 32 := Scalar.addi c0_i32_6352 v7145
  v7146.toNat
def k0_dev158 (d0 : Dev nD) : Nat :=
  let c0_i32_6393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6392 : BitVec 32 := 1#32
  let v7187 : BitVec 32 := Scalar.muli v24 c1_i32_6392
  let v7188 : BitVec 32 := Scalar.addi c0_i32_6393 v7187
  v7188.toNat
def k0_dev159 (d0 : Dev nD) : Nat :=
  let c0_i32_6434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6433 : BitVec 32 := 1#32
  let v7229 : BitVec 32 := Scalar.muli v24 c1_i32_6433
  let v7230 : BitVec 32 := Scalar.addi c0_i32_6434 v7229
  v7230.toNat
def k0_dev160 (d0 : Dev nD) : Nat :=
  let c0_i32_6475 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6474 : BitVec 32 := 1#32
  let v7271 : BitVec 32 := Scalar.muli v24 c1_i32_6474
  let v7272 : BitVec 32 := Scalar.addi c0_i32_6475 v7271
  v7272.toNat
def k0_dev161 (d0 : Dev nD) : Nat :=
  let c0_i32_6516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6515 : BitVec 32 := 1#32
  let v7313 : BitVec 32 := Scalar.muli v24 c1_i32_6515
  let v7314 : BitVec 32 := Scalar.addi c0_i32_6516 v7313
  v7314.toNat
def k0_dev162 (d0 : Dev nD) : Nat :=
  let c0_i32_6557 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6556 : BitVec 32 := 1#32
  let v7355 : BitVec 32 := Scalar.muli v24 c1_i32_6556
  let v7356 : BitVec 32 := Scalar.addi c0_i32_6557 v7355
  v7356.toNat
def k0_dev163 (d0 : Dev nD) : Nat :=
  let c0_i32_6598 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6597 : BitVec 32 := 1#32
  let v7397 : BitVec 32 := Scalar.muli v24 c1_i32_6597
  let v7398 : BitVec 32 := Scalar.addi c0_i32_6598 v7397
  v7398.toNat
def k0_dev164 (d0 : Dev nD) : Nat :=
  let c0_i32_6639 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6638 : BitVec 32 := 1#32
  let v7439 : BitVec 32 := Scalar.muli v24 c1_i32_6638
  let v7440 : BitVec 32 := Scalar.addi c0_i32_6639 v7439
  v7440.toNat
def k0_dev165 (d0 : Dev nD) : Nat :=
  let c0_i32_6680 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6679 : BitVec 32 := 1#32
  let v7481 : BitVec 32 := Scalar.muli v24 c1_i32_6679
  let v7482 : BitVec 32 := Scalar.addi c0_i32_6680 v7481
  v7482.toNat
def k0_dev166 (d0 : Dev nD) : Nat :=
  let c0_i32_6718 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6717 : BitVec 32 := 1#32
  let v7523 : BitVec 32 := Scalar.muli v13 c1_i32_6717
  let v7524 : BitVec 32 := Scalar.addi c0_i32_6718 v7523
  v7524.toNat
def k0_dev167 (d0 : Dev nD) : Nat :=
  let c0_i32_6721 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6720 : BitVec 32 := 1#32
  let v7525 : BitVec 32 := Scalar.muli v24 c1_i32_6720
  let v7526 : BitVec 32 := Scalar.addi c0_i32_6721 v7525
  v7526.toNat
def k0_dev168 (d0 : Dev nD) : Nat :=
  let c0_i32_6780 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6779 : BitVec 32 := 1#32
  let v7587 : BitVec 32 := Scalar.muli v24 c1_i32_6779
  let v7588 : BitVec 32 := Scalar.addi c0_i32_6780 v7587
  v7588.toNat
def k0_dev169 (d0 : Dev nD) : Nat :=
  let c0_i32_6825 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6824 : BitVec 32 := 1#32
  let v7642 : BitVec 32 := Scalar.muli v24 c1_i32_6824
  let v7643 : BitVec 32 := Scalar.addi c0_i32_6825 v7642
  v7643.toNat
def k0_dev170 (d0 : Dev nD) : Nat :=
  let c0_i32_6870 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6869 : BitVec 32 := 1#32
  let v7697 : BitVec 32 := Scalar.muli v24 c1_i32_6869
  let v7698 : BitVec 32 := Scalar.addi c0_i32_6870 v7697
  v7698.toNat
def k0_dev171 (d0 : Dev nD) : Nat :=
  let c0_i32_6915 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6914 : BitVec 32 := 1#32
  let v7752 : BitVec 32 := Scalar.muli v24 c1_i32_6914
  let v7753 : BitVec 32 := Scalar.addi c0_i32_6915 v7752
  v7753.toNat
def k0_dev172 (d0 : Dev nD) : Nat :=
  let c0_i32_6960 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6959 : BitVec 32 := 1#32
  let v7807 : BitVec 32 := Scalar.muli v24 c1_i32_6959
  let v7808 : BitVec 32 := Scalar.addi c0_i32_6960 v7807
  v7808.toNat
def k0_dev173 (d0 : Dev nD) : Nat :=
  let c0_i32_7005 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7004 : BitVec 32 := 1#32
  let v7862 : BitVec 32 := Scalar.muli v24 c1_i32_7004
  let v7863 : BitVec 32 := Scalar.addi c0_i32_7005 v7862
  v7863.toNat
def k0_dev174 (d0 : Dev nD) : Nat :=
  let c0_i32_7050 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7049 : BitVec 32 := 1#32
  let v7917 : BitVec 32 := Scalar.muli v24 c1_i32_7049
  let v7918 : BitVec 32 := Scalar.addi c0_i32_7050 v7917
  v7918.toNat
def k0_dev175 (d0 : Dev nD) : Nat :=
  let c0_i32_7095 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7094 : BitVec 32 := 1#32
  let v7972 : BitVec 32 := Scalar.muli v24 c1_i32_7094
  let v7973 : BitVec 32 := Scalar.addi c0_i32_7095 v7972
  v7973.toNat
def k0_dev176 (d0 : Dev nD) : Nat :=
  let c0_i32_7140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7139 : BitVec 32 := 1#32
  let v8027 : BitVec 32 := Scalar.muli v24 c1_i32_7139
  let v8028 : BitVec 32 := Scalar.addi c0_i32_7140 v8027
  v8028.toNat
def k0_dev177 (d0 : Dev nD) : Nat :=
  let c0_i32_7185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7184 : BitVec 32 := 1#32
  let v8082 : BitVec 32 := Scalar.muli v24 c1_i32_7184
  let v8083 : BitVec 32 := Scalar.addi c0_i32_7185 v8082
  v8083.toNat
def k0_dev178 (d0 : Dev nD) : Nat :=
  let c0_i32_7230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7229 : BitVec 32 := 1#32
  let v8137 : BitVec 32 := Scalar.muli v24 c1_i32_7229
  let v8138 : BitVec 32 := Scalar.addi c0_i32_7230 v8137
  v8138.toNat
def k0_dev179 (d0 : Dev nD) : Nat :=
  let c0_i32_7275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7274 : BitVec 32 := 1#32
  let v8192 : BitVec 32 := Scalar.muli v24 c1_i32_7274
  let v8193 : BitVec 32 := Scalar.addi c0_i32_7275 v8192
  v8193.toNat
def k0_dev180 (d0 : Dev nD) : Nat :=
  let c0_i32_7320 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7319 : BitVec 32 := 1#32
  let v8247 : BitVec 32 := Scalar.muli v24 c1_i32_7319
  let v8248 : BitVec 32 := Scalar.addi c0_i32_7320 v8247
  v8248.toNat
def k0_dev181 (d0 : Dev nD) : Nat :=
  let c0_i32_7365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7364 : BitVec 32 := 1#32
  let v8302 : BitVec 32 := Scalar.muli v24 c1_i32_7364
  let v8303 : BitVec 32 := Scalar.addi c0_i32_7365 v8302
  v8303.toNat
def k0_dev182 (d0 : Dev nD) : Nat :=
  let c0_i32_7410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7409 : BitVec 32 := 1#32
  let v8357 : BitVec 32 := Scalar.muli v24 c1_i32_7409
  let v8358 : BitVec 32 := Scalar.addi c0_i32_7410 v8357
  v8358.toNat
def k0_dev183 (d0 : Dev nD) : Nat :=
  let c0_i32_7455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7454 : BitVec 32 := 1#32
  let v8412 : BitVec 32 := Scalar.muli v24 c1_i32_7454
  let v8413 : BitVec 32 := Scalar.addi c0_i32_7455 v8412
  v8413.toNat
def k0_dev184 (d0 : Dev nD) : Nat :=
  let c0_i32_7500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7499 : BitVec 32 := 1#32
  let v8467 : BitVec 32 := Scalar.muli v24 c1_i32_7499
  let v8468 : BitVec 32 := Scalar.addi c0_i32_7500 v8467
  v8468.toNat
def k0_dev185 (d0 : Dev nD) : Nat :=
  let c0_i32_7545 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7544 : BitVec 32 := 1#32
  let v8522 : BitVec 32 := Scalar.muli v24 c1_i32_7544
  let v8523 : BitVec 32 := Scalar.addi c0_i32_7545 v8522
  v8523.toNat
def k0_dev186 (d0 : Dev nD) : Nat :=
  let c0_i32_7590 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7589 : BitVec 32 := 1#32
  let v8577 : BitVec 32 := Scalar.muli v24 c1_i32_7589
  let v8578 : BitVec 32 := Scalar.addi c0_i32_7590 v8577
  v8578.toNat
def k0_dev187 (d0 : Dev nD) : Nat :=
  let c0_i32_7635 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7634 : BitVec 32 := 1#32
  let v8632 : BitVec 32 := Scalar.muli v24 c1_i32_7634
  let v8633 : BitVec 32 := Scalar.addi c0_i32_7635 v8632
  v8633.toNat
def k0_dev188 (d0 : Dev nD) : Nat :=
  let c0_i32_7680 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7679 : BitVec 32 := 1#32
  let v8687 : BitVec 32 := Scalar.muli v24 c1_i32_7679
  let v8688 : BitVec 32 := Scalar.addi c0_i32_7680 v8687
  v8688.toNat
def k0_dev189 (d0 : Dev nD) : Nat :=
  let c0_i32_7725 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7724 : BitVec 32 := 1#32
  let v8742 : BitVec 32 := Scalar.muli v24 c1_i32_7724
  let v8743 : BitVec 32 := Scalar.addi c0_i32_7725 v8742
  v8743.toNat
def k0_dev190 (d0 : Dev nD) : Nat :=
  let c0_i32_7770 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7769 : BitVec 32 := 1#32
  let v8797 : BitVec 32 := Scalar.muli v24 c1_i32_7769
  let v8798 : BitVec 32 := Scalar.addi c0_i32_7770 v8797
  v8798.toNat
def k0_dev191 (d0 : Dev nD) : Nat :=
  let c0_i32_7815 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7814 : BitVec 32 := 1#32
  let v8852 : BitVec 32 := Scalar.muli v24 c1_i32_7814
  let v8853 : BitVec 32 := Scalar.addi c0_i32_7815 v8852
  v8853.toNat
def k0_dev192 (d0 : Dev nD) : Nat :=
  let c0_i32_7860 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7859 : BitVec 32 := 1#32
  let v8907 : BitVec 32 := Scalar.muli v24 c1_i32_7859
  let v8908 : BitVec 32 := Scalar.addi c0_i32_7860 v8907
  v8908.toNat
def k0_dev193 (d0 : Dev nD) : Nat :=
  let c0_i32_7905 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7904 : BitVec 32 := 1#32
  let v8962 : BitVec 32 := Scalar.muli v24 c1_i32_7904
  let v8963 : BitVec 32 := Scalar.addi c0_i32_7905 v8962
  v8963.toNat
def k0_dev194 (d0 : Dev nD) : Nat :=
  let c0_i32_7950 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7949 : BitVec 32 := 1#32
  let v9017 : BitVec 32 := Scalar.muli v24 c1_i32_7949
  let v9018 : BitVec 32 := Scalar.addi c0_i32_7950 v9017
  v9018.toNat
def k0_dev195 (d0 : Dev nD) : Nat :=
  let c0_i32_7995 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7994 : BitVec 32 := 1#32
  let v9072 : BitVec 32 := Scalar.muli v24 c1_i32_7994
  let v9073 : BitVec 32 := Scalar.addi c0_i32_7995 v9072
  v9073.toNat
def k0_dev196 (d0 : Dev nD) : Nat :=
  let c0_i32_8040 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8039 : BitVec 32 := 1#32
  let v9127 : BitVec 32 := Scalar.muli v24 c1_i32_8039
  let v9128 : BitVec 32 := Scalar.addi c0_i32_8040 v9127
  v9128.toNat
def k0_dev197 (d0 : Dev nD) : Nat :=
  let c0_i32_8085 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8084 : BitVec 32 := 1#32
  let v9182 : BitVec 32 := Scalar.muli v24 c1_i32_8084
  let v9183 : BitVec 32 := Scalar.addi c0_i32_8085 v9182
  v9183.toNat
def k0_dev198 (d0 : Dev nD) : Nat :=
  let c0_i32_8130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8129 : BitVec 32 := 1#32
  let v9237 : BitVec 32 := Scalar.muli v24 c1_i32_8129
  let v9238 : BitVec 32 := Scalar.addi c0_i32_8130 v9237
  v9238.toNat
def k0_dev199 (d0 : Dev nD) : Nat :=
  let c0_i32_8165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8164 : BitVec 32 := 1#32
  let v9280 : BitVec 32 := Scalar.muli v13 c1_i32_8164
  let v9281 : BitVec 32 := Scalar.addi c0_i32_8165 v9280
  v9281.toNat
def k0_dev200 (d0 : Dev nD) : Nat :=
  let c0_i32_8168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8167 : BitVec 32 := 1#32
  let v9282 : BitVec 32 := Scalar.muli v24 c1_i32_8167
  let v9283 : BitVec 32 := Scalar.addi c0_i32_8168 v9282
  v9283.toNat
def k0_dev201 (d0 : Dev nD) : Nat :=
  let c0_i32_8187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8186 : BitVec 32 := 1#32
  let v9302 : BitVec 32 := Scalar.muli v24 c1_i32_8186
  let v9303 : BitVec 32 := Scalar.addi c0_i32_8187 v9302
  v9303.toNat
def k0_dev202 (d0 : Dev nD) : Nat :=
  let c0_i32_8223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8222 : BitVec 32 := 1#32
  let v9339 : BitVec 32 := Scalar.muli v24 c1_i32_8222
  let v9340 : BitVec 32 := Scalar.addi c0_i32_8223 v9339
  v9340.toNat
def k0_dev203 (d0 : Dev nD) : Nat :=
  let c0_i32_8264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8263 : BitVec 32 := 1#32
  let v9379 : BitVec 32 := Scalar.muli v24 c1_i32_8263
  let v9380 : BitVec 32 := Scalar.addi c0_i32_8264 v9379
  v9380.toNat
def k0_dev204 (d0 : Dev nD) : Nat :=
  let c0_i32_8305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8304 : BitVec 32 := 1#32
  let v9419 : BitVec 32 := Scalar.muli v24 c1_i32_8304
  let v9420 : BitVec 32 := Scalar.addi c0_i32_8305 v9419
  v9420.toNat
def k0_dev205 (d0 : Dev nD) : Nat :=
  let c0_i32_8346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8345 : BitVec 32 := 1#32
  let v9459 : BitVec 32 := Scalar.muli v24 c1_i32_8345
  let v9460 : BitVec 32 := Scalar.addi c0_i32_8346 v9459
  v9460.toNat
def k0_dev206 (d0 : Dev nD) : Nat :=
  let c0_i32_8387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8386 : BitVec 32 := 1#32
  let v9499 : BitVec 32 := Scalar.muli v24 c1_i32_8386
  let v9500 : BitVec 32 := Scalar.addi c0_i32_8387 v9499
  v9500.toNat
def k0_dev207 (d0 : Dev nD) : Nat :=
  let c0_i32_8428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8427 : BitVec 32 := 1#32
  let v9539 : BitVec 32 := Scalar.muli v24 c1_i32_8427
  let v9540 : BitVec 32 := Scalar.addi c0_i32_8428 v9539
  v9540.toNat
def k0_dev208 (d0 : Dev nD) : Nat :=
  let c0_i32_8469 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8468 : BitVec 32 := 1#32
  let v9579 : BitVec 32 := Scalar.muli v24 c1_i32_8468
  let v9580 : BitVec 32 := Scalar.addi c0_i32_8469 v9579
  v9580.toNat
def k0_dev209 (d0 : Dev nD) : Nat :=
  let c0_i32_8510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8509 : BitVec 32 := 1#32
  let v9619 : BitVec 32 := Scalar.muli v24 c1_i32_8509
  let v9620 : BitVec 32 := Scalar.addi c0_i32_8510 v9619
  v9620.toNat
def k0_dev210 (d0 : Dev nD) : Nat :=
  let c0_i32_8551 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8550 : BitVec 32 := 1#32
  let v9659 : BitVec 32 := Scalar.muli v24 c1_i32_8550
  let v9660 : BitVec 32 := Scalar.addi c0_i32_8551 v9659
  v9660.toNat
def k0_dev211 (d0 : Dev nD) : Nat :=
  let c0_i32_8592 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8591 : BitVec 32 := 1#32
  let v9699 : BitVec 32 := Scalar.muli v24 c1_i32_8591
  let v9700 : BitVec 32 := Scalar.addi c0_i32_8592 v9699
  v9700.toNat
def k0_dev212 (d0 : Dev nD) : Nat :=
  let c0_i32_8633 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8632 : BitVec 32 := 1#32
  let v9739 : BitVec 32 := Scalar.muli v24 c1_i32_8632
  let v9740 : BitVec 32 := Scalar.addi c0_i32_8633 v9739
  v9740.toNat
def k0_dev213 (d0 : Dev nD) : Nat :=
  let c0_i32_8674 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8673 : BitVec 32 := 1#32
  let v9779 : BitVec 32 := Scalar.muli v24 c1_i32_8673
  let v9780 : BitVec 32 := Scalar.addi c0_i32_8674 v9779
  v9780.toNat
def k0_dev214 (d0 : Dev nD) : Nat :=
  let c0_i32_8715 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8714 : BitVec 32 := 1#32
  let v9819 : BitVec 32 := Scalar.muli v24 c1_i32_8714
  let v9820 : BitVec 32 := Scalar.addi c0_i32_8715 v9819
  v9820.toNat
def k0_dev215 (d0 : Dev nD) : Nat :=
  let c0_i32_8756 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8755 : BitVec 32 := 1#32
  let v9859 : BitVec 32 := Scalar.muli v24 c1_i32_8755
  let v9860 : BitVec 32 := Scalar.addi c0_i32_8756 v9859
  v9860.toNat
def k0_dev216 (d0 : Dev nD) : Nat :=
  let c0_i32_8797 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8796 : BitVec 32 := 1#32
  let v9899 : BitVec 32 := Scalar.muli v24 c1_i32_8796
  let v9900 : BitVec 32 := Scalar.addi c0_i32_8797 v9899
  v9900.toNat
def k0_dev217 (d0 : Dev nD) : Nat :=
  let c0_i32_8838 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8837 : BitVec 32 := 1#32
  let v9939 : BitVec 32 := Scalar.muli v24 c1_i32_8837
  let v9940 : BitVec 32 := Scalar.addi c0_i32_8838 v9939
  v9940.toNat
def k0_dev218 (d0 : Dev nD) : Nat :=
  let c0_i32_8879 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8878 : BitVec 32 := 1#32
  let v9979 : BitVec 32 := Scalar.muli v24 c1_i32_8878
  let v9980 : BitVec 32 := Scalar.addi c0_i32_8879 v9979
  v9980.toNat
def k0_dev219 (d0 : Dev nD) : Nat :=
  let c0_i32_8920 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8919 : BitVec 32 := 1#32
  let v10019 : BitVec 32 := Scalar.muli v24 c1_i32_8919
  let v10020 : BitVec 32 := Scalar.addi c0_i32_8920 v10019
  v10020.toNat
def k0_dev220 (d0 : Dev nD) : Nat :=
  let c0_i32_8961 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8960 : BitVec 32 := 1#32
  let v10059 : BitVec 32 := Scalar.muli v24 c1_i32_8960
  let v10060 : BitVec 32 := Scalar.addi c0_i32_8961 v10059
  v10060.toNat
def k0_dev221 (d0 : Dev nD) : Nat :=
  let c0_i32_9002 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9001 : BitVec 32 := 1#32
  let v10099 : BitVec 32 := Scalar.muli v24 c1_i32_9001
  let v10100 : BitVec 32 := Scalar.addi c0_i32_9002 v10099
  v10100.toNat
def k0_dev222 (d0 : Dev nD) : Nat :=
  let c0_i32_9043 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9042 : BitVec 32 := 1#32
  let v10139 : BitVec 32 := Scalar.muli v24 c1_i32_9042
  let v10140 : BitVec 32 := Scalar.addi c0_i32_9043 v10139
  v10140.toNat
def k0_dev223 (d0 : Dev nD) : Nat :=
  let c0_i32_9084 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9083 : BitVec 32 := 1#32
  let v10179 : BitVec 32 := Scalar.muli v24 c1_i32_9083
  let v10180 : BitVec 32 := Scalar.addi c0_i32_9084 v10179
  v10180.toNat
def k0_dev224 (d0 : Dev nD) : Nat :=
  let c0_i32_9125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9124 : BitVec 32 := 1#32
  let v10219 : BitVec 32 := Scalar.muli v24 c1_i32_9124
  let v10220 : BitVec 32 := Scalar.addi c0_i32_9125 v10219
  v10220.toNat
def k0_dev225 (d0 : Dev nD) : Nat :=
  let c0_i32_9166 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9165 : BitVec 32 := 1#32
  let v10259 : BitVec 32 := Scalar.muli v24 c1_i32_9165
  let v10260 : BitVec 32 := Scalar.addi c0_i32_9166 v10259
  v10260.toNat
def k0_dev226 (d0 : Dev nD) : Nat :=
  let c0_i32_9207 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9206 : BitVec 32 := 1#32
  let v10299 : BitVec 32 := Scalar.muli v24 c1_i32_9206
  let v10300 : BitVec 32 := Scalar.addi c0_i32_9207 v10299
  v10300.toNat
def k0_dev227 (d0 : Dev nD) : Nat :=
  let c0_i32_9248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9247 : BitVec 32 := 1#32
  let v10339 : BitVec 32 := Scalar.muli v24 c1_i32_9247
  let v10340 : BitVec 32 := Scalar.addi c0_i32_9248 v10339
  v10340.toNat
def k0_dev228 (d0 : Dev nD) : Nat :=
  let c0_i32_9289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9288 : BitVec 32 := 1#32
  let v10379 : BitVec 32 := Scalar.muli v24 c1_i32_9288
  let v10380 : BitVec 32 := Scalar.addi c0_i32_9289 v10379
  v10380.toNat
def k0_dev229 (d0 : Dev nD) : Nat :=
  let c0_i32_9330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9329 : BitVec 32 := 1#32
  let v10419 : BitVec 32 := Scalar.muli v24 c1_i32_9329
  let v10420 : BitVec 32 := Scalar.addi c0_i32_9330 v10419
  v10420.toNat
def k0_dev230 (d0 : Dev nD) : Nat :=
  let c0_i32_9371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9370 : BitVec 32 := 1#32
  let v10459 : BitVec 32 := Scalar.muli v24 c1_i32_9370
  let v10460 : BitVec 32 := Scalar.addi c0_i32_9371 v10459
  v10460.toNat
def k0_dev231 (d0 : Dev nD) : Nat :=
  let c0_i32_9412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9411 : BitVec 32 := 1#32
  let v10499 : BitVec 32 := Scalar.muli v24 c1_i32_9411
  let v10500 : BitVec 32 := Scalar.addi c0_i32_9412 v10499
  v10500.toNat
abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S4096x128 : Shape := ⟨2, ![4096, 128]⟩
abbrev S128x8192 : Shape := ⟨2, ![128, 8192]⟩
abbrev S8192x128 : Shape := ⟨2, ![8192, 128]⟩
abbrev S4096x8192 : Shape := ⟨2, ![4096, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S128x8192, .f32⟩
  | .hbm, ⟨2, _⟩ => ⟨S8192x128, .f32⟩
  | .hbm, ⟨3, _⟩ => ⟨S128x8192, .f32⟩
  | .hbm, ⟨4, _⟩ => ⟨S8192x128, .f32⟩
  | .hbm, ⟨5, _⟩ => ⟨S128x8192, .f32⟩
  | .hbm, ⟨6, _⟩ => ⟨S8192x128, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x128, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x128, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Shape.lean ====
/- The kernel's body written once more, by phases and hops: the printed body unrolls two hundred and seventeen hops; here
   a hop is one definition, a phase runs it over the thirty-one hops, and the body is seven phases with a barrier before
   each. `body_eq` says that the two are the same program. -/
module

public import proofs.«01_k».proof.Proof.Gen.KernelIdeal
public import Idealize.ShloMosaic.Lib.Pipeline.Regions

@[expose] public section

set_option maxRecDepth 16384

noncomputable section

namespace Cert.RingMlp

open Cert.KernelIdeal Cert.KernelIdeal.Gen
open Idealize.ShloMosaic Idealize.SL.Sem

variable {F : FTy → Type} [FloatOps F]

/-- A program of the kernel's body. -/
abbrev Pg (F : FTy → Type) (α : Type) := Prog (TpuEff nD τ sig (Elt F) Λ₀ .tc) α

/-- The thirty-one hops, in order. -/
def hops : List (Fin 31) :=
  [⟨0, by decide⟩, ⟨1, by decide⟩, ⟨2, by decide⟩, ⟨3, by decide⟩, ⟨4, by decide⟩, ⟨5, by decide⟩, ⟨6, by decide⟩, ⟨7, by decide⟩,
   ⟨8, by decide⟩, ⟨9, by decide⟩, ⟨10, by decide⟩, ⟨11, by decide⟩, ⟨12, by decide⟩, ⟨13, by decide⟩, ⟨14, by decide⟩, ⟨15, by decide⟩,
   ⟨16, by decide⟩, ⟨17, by decide⟩, ⟨18, by decide⟩, ⟨19, by decide⟩, ⟨20, by decide⟩, ⟨21, by decide⟩, ⟨22, by decide⟩, ⟨23, by decide⟩,
   ⟨24, by decide⟩, ⟨25, by decide⟩, ⟨26, by decide⟩, ⟨27, by decide⟩, ⟨28, by decide⟩, ⟨29, by decide⟩, ⟨30, by decide⟩]

/-- Run `f` at each hop of a list, in order. -/
def runList (f : Fin 31 → Pg F PUnit) : List (Fin 31) → Pg F PUnit
  | [] => pure ⟨⟩
  | h :: t => f h >>= fun _ => runList f t

theorem inbSem : ∀ h : Fin 31, ∀ a, (![h.val] : Fin 1 → Nat) a + S1.size a ≤ S31.size a := by decide
theorem inbSlot : ∀ h : Fin 31, ∀ a, (![h.val, 0, 0] : Fin 3 → Nat) a + S1x128x128.size a ≤ S31x128x128.size a := by decide
theorem inbTile : ∀ i : Fin 4, ∀ a, (![1024 * i.val, 0] : Fin 2 → Nat) a + S1024x128.size a ≤ S4096x128.size a := by decide

/-- The rectangle of landing slot `h`, of tile `i`, of the chunk at offset `o`. -/
abbrev slotRect (h : Fin 31) : Rect S31x128x128 := Rect.unit (s := S31x128x128) ![h.val, 0, 0] S1x128x128.size (inbSlot h)
abbrev tileRect (i : Fin 4) : Rect S4096x128 := Rect.unit (s := S4096x128) ![1024 * i.val, 0] S1024x128.size (inbTile i)
abbrev chunkRect (o : Fin 2 → Nat) (ho : ∀ a, o a + S128x128.size a ≤ S4096x128.size a) : Rect S4096x128 :=
  Rect.unit (s := S4096x128) o S128x128.size ho

/-- Landing slot `h`, the chunk at offset `o`, as the transfers name them; the semaphore of hop `h`. -/
def slot (cm : Memref sig .tc .vmem S31x128x128 .f32) (h : Fin 31) : Memref sig .tc .vmem S128x128 .f32 :=
  (cm.slice (slotRect h) (fun _ => rfl)).squeeze S128x128 squeezes_S1x128x128_S128x128
def chunk (p : Memref sig .tc .vmem S4096x128 .f32) (o : Fin 2 → Nat) (ho : ∀ a, o a + S128x128.size a ≤ S4096x128.size a) :
    Memref sig .tc .vmem S128x128 .f32 :=
  p.slice (chunkRect o ho) (fun _ => rfl)
def semAt (s : DmaSems sig S31) (h : Fin 31) : DmaSem sig :=
  ((s.slice (Rect.unit (s := S31) ![h.val] S1.size (inbSem h))).squeeze S_ squeezes_S1_S_).sem

theorem slot_exact (cm : Memref sig .tc .vmem S31x128x128 .f32) (h : Fin 31) : (slot cm h).view.WordExact :=
  (View.wordExact_bits rfl).reshape _ _
theorem chunk_exact (p : Memref sig .tc .vmem S4096x128 .f32) (o : Fin 2 → Nat) (ho) : (chunk p o ho).view.WordExact :=
  View.wordExact_bits rfl

/-- The three arrays a hop is about: the landing slots, the semaphores of departure and of arrival. -/
structure Ends where
  cm : Memref sig .tc .vmem S31x128x128 .f32
  ss : DmaSems sig S31
  rs : DmaSems sig S31

/-- Hop `h`'s transfer to device `n`, and the two waits for it. -/
def xfer (E : Ends) (n : Dev nD) (src : Memref sig .tc .vmem S128x128 .f32) (hs : src.view.WordExact) (h : Fin 31) : Pg F PUnit := do
  Prog.lift (.enqueueDma src (.remote (Dev.tc n) (slot E.cm h) (.dma (semAt E.ss h))) (.dma (semAt E.rs h)) hs (slot_exact E.cm h) ⟨⟨rfl, Or.inl rfl⟩, trivial⟩)
  Prog.lift (.waitDma2 (semAt E.ss h) (slot E.cm h) src (slot_exact E.cm h) hs)
  Prog.lift (.waitDma2 (semAt E.rs h) src (slot E.cm h) hs (slot_exact E.cm h))

/-- A gather hop's second half: the landed block stored at its place in `dst`. -/
def gatherStore (E : Ends) (dst : Memref sig .tc .vmem S4096x128 .f32) (g : FVec F S128x128 .f32 → FVec F S128x128 .f32)
    (o : Fin 2 → Nat) (ho : ∀ a, o a + S128x128.size a ≤ S4096x128.size a) (h : Fin 31) : Pg F PUnit := do
  let v : Vec F S1x128x128 .f32 ← Prog.lift (.load E.cm (slotRect h).toLoadRect (View.loadsAt_vmem h_S1x128x128))
  let _ : Vec F S128x128 .f32 ← Prog.lift (.load dst (chunkRect o ho).toLoadRect (View.loadsAt_vmem h_S128x128))
  Prog.lift (.store dst (chunkRect o ho) (g (shapeCast S128x128 v shapeCasts_S1x128x128_S128x128)) Finset.univ (View.stores_vmem_bits_univ h_S128x128 rfl) (.inl rfl))

/-- A reduction hop's second half: the landed block added into its chunk of `p`. -/
def reduceStore (E : Ends) (p : Memref sig .tc .vmem S4096x128 .f32)
    (o : Fin 2 → Nat) (ho : ∀ a, o a + S128x128.size a ≤ S4096x128.size a) (h : Fin 31) : Pg F PUnit := do
  let v : Vec F S128x128 .f32 ← Prog.lift (.load p (chunkRect o ho).toLoadRect (View.loadsAt_vmem h_S128x128))
  let w : Vec F S1x128x128 .f32 ← Prog.lift (.load E.cm (slotRect h).toLoadRect (View.loadsAt_vmem h_S1x128x128))
  let _ : Vec F S128x128 .f32 ← Prog.lift (.load p (chunkRect o ho).toLoadRect (View.loadsAt_vmem h_S128x128))
  Prog.lift (.store p (chunkRect o ho)
    (shapeCast S128x128 (addf v (shapeCast S128x128 w shapeCasts_S1x128x128_S128x128)) shapeCasts_S128x128_S128x128)
    Finset.univ (View.stores_vmem_bits_univ h_S128x128 rfl) (.inl rfl))

/-- What a gather forwards at hop `h`: its own block first, then what landed at the hop before. -/
def fwd (E : Ends) (src : Memref sig .tc .vmem S128x128 .f32) : Fin 31 → Memref sig .tc .vmem S128x128 .f32
  | ⟨0, _⟩ => src
  | ⟨k + 1, hk⟩ => slot E.cm ⟨k, Nat.lt_of_succ_lt hk⟩
theorem fwd_exact (E : Ends) (src : Memref sig .tc .vmem S128x128 .f32) (hs : src.view.WordExact) : ∀ h, (fwd E src h).view.WordExact
  | ⟨0, _⟩ => hs
  | ⟨_ + 1, _⟩ => slot_exact _ _

/-- The two copies' reshapings: the printed ones keep the shape. -/
abbrev keep (v : FVec F S128x128 .f32) : FVec F S128x128 .f32 := shapeCast S128x128 v shapeCasts_S128x128_S128x128

/-- The gather's hops, and the reduction's. -/
def gatherHop (E : Ends) (n : Dev nD) (src : Memref sig .tc .vmem S128x128 .f32) (hs : src.view.WordExact)
    (dst : Memref sig .tc .vmem S4096x128 .f32) (g : FVec F S128x128 .f32 → FVec F S128x128 .f32)
    (o : Fin 31 → Fin 2 → Nat) (ho : ∀ h, ∀ a, o h a + S128x128.size a ≤ S4096x128.size a) (h : Fin 31) : Pg F PUnit := do
  xfer E n (fwd E src h) (fwd_exact E src hs h) h
  gatherStore E dst g (o h) (ho h) h
def reduceHop (E : Ends) (n : Dev nD) (p : Memref sig .tc .vmem S4096x128 .f32)
    (o o' : Fin 31 → Fin 2 → Nat) (ho : ∀ h, ∀ a, o h a + S128x128.size a ≤ S4096x128.size a)
    (ho' : ∀ h, ∀ a, o' h a + S128x128.size a ≤ S4096x128.size a) (h : Fin 31) : Pg F PUnit := do
  xfer E n (chunk p (o h) (ho h)) (chunk_exact p (o h) (ho h)) h
  reduceStore E p (o' h) (ho' h) h

/-- The barrier with the two neighbours. -/
def barrier (pr nx : Dev nD) (b : Sems sig S_) : Pg F PUnit := do
  semSignalWord pr b.sem 1#32
  semSignalWord nx b.sem 1#32
  semWaitWord b.sem 2#32

/-- One tile of the two products with the rectifier between. -/
def tileVal (a : Vec F S1024x128 .f32) (wi : Vec F S128x256 .f32) (wo : Vec F S256x128 .f32) : FVec F S1024x128 .f32 :=
  matmul dot_S1024x256_S256x128_S1024x128_1_0_0_1_n_n none
    (maximumf (matmul dot_S1024x128_S128x256_S1024x256_1_0_0_1_n_n none a
        (shapeCast S128x256 wi shapeCasts_S128x256_S128x256 : FVec F S128x256 .f32) (constant S1024x256 .f32 0x00000000#32 : FVec F S1024x256 .f32))
      (broadcast S1024x256 (Scalar.ofBits .f32 0x00000000#32 : F .f32)))
    (shapeCast S256x128 wo shapeCasts_S256x128_S256x128 : FVec F S256x128 .f32) (constant S1024x128 .f32 0x00000000#32 : FVec F S1024x128 .f32)

def tileStep (xf p : Memref sig .tc .vmem S4096x128 .f32) (wi : Memref sig .tc .vmem S128x256 .f32) (wo : Memref sig .tc .vmem S256x128 .f32)
    (i : Fin 4) : Pg F PUnit := do
  let a : Vec F S1024x128 .f32 ← Prog.lift (.load xf (tileRect i).toLoadRect (View.loadsAt_vmem h_S1024x128))
  let w : Vec F S128x256 .f32 ← Prog.lift (.load wi (Rect.unit (s := S128x256) ![0, 0] S128x256.size inb_S128x256_S128x256_0_0).toLoadRect (View.loadsAt_vmem h_S128x256))
  let w' : Vec F S256x128 .f32 ← Prog.lift (.load wo (Rect.unit (s := S256x128) ![0, 0] S256x128.size inb_S256x128_S256x128_0_0).toLoadRect (View.loadsAt_vmem h_S256x128))
  let _ : Vec F S1024x128 .f32 ← Prog.lift (.load p (tileRect i).toLoadRect (View.loadsAt_vmem h_S1024x128))
  Prog.lift (.store p (tileRect i) (shapeCast S1024x128 (tileVal a w w') shapeCasts_S1024x128_S1024x128) Finset.univ (View.stores_vmem_bits_univ h_S1024x128 rfl) (.inl rfl))

def tiles (xf p : Memref sig .tc .vmem S4096x128 .f32) (wi : Memref sig .tc .vmem S128x256 .f32) (wo : Memref sig .tc .vmem S256x128 .f32) : Pg F PUnit := do
  tileStep xf p wi wo ⟨0, by decide⟩
  tileStep xf p wi wo ⟨1, by decide⟩
  tileStep xf p wi wo ⟨2, by decide⟩
  tileStep xf p wi wo ⟨3, by decide⟩

/-- The neighbours, as the program computes them. -/
abbrev prD (d : Dev nD) : Dev nD := ⟨k0_dev1 d, k0_dev1_lt d⟩
abbrev nxD (d : Dev nD) : Dev nD := ⟨k0_dev2 d, k0_dev2_lt d⟩
abbrev toD (d : Dev nD) : Dev nD := ⟨k0_dev3 d, k0_dev3_lt d⟩

/-- The offsets of hop `h`: the chunk a reduction sends, the one it adds into (also where the first gather stores), and
    where the later gathers store. -/
abbrev sendOff (d : Dev nD) (h : Fin 31) : Fin 2 → Nat := k0_off3 d (BitVec.ofNat 32 h.val)
abbrev addOff (d : Dev nD) (h : Fin 31) : Fin 2 → Nat := k0_off2 d (BitVec.ofNat 32 h.val)
abbrev putOff (d : Dev nD) (h : Fin 31) : Fin 2 → Nat := k0_off6 d (BitVec.ofNat 32 h.val)

/-- One layer: the barrier, the tiles, the reduction, the barrier, the own chunk copied to `dst`, the gather. -/
def layer (E : Ends) (b : Sems sig S_) (d : Dev nD) (xf p dst : Memref sig .tc .vmem S4096x128 .f32) (g : FVec F S128x128 .f32 → FVec F S128x128 .f32)
    (wi : Memref sig .tc .vmem S128x256 .f32) (wo : Memref sig .tc .vmem S256x128 .f32) : Pg F PUnit := do
  barrier (prD d) (nxD d) b
  tiles xf p wi wo
  runList (reduceHop E (toD d) p (sendOff d) (addOff d) (k0_off3_inb d) (k0_off2_inb d)) hops
  barrier (prD d) (nxD d) b
  let v : Vec F S128x128 .f32 ← Prog.lift (.load p (chunkRect (k0_off4 d) (k0_off4_inb d)).toLoadRect (View.loadsAt_vmem h_S128x128))
  let _ : Vec F S128x128 .f32 ← Prog.lift (.load dst (chunkRect (k0_off4 d) (k0_off4_inb d)).toLoadRect (View.loadsAt_vmem h_S128x128))
  Prog.lift (.store dst (chunkRect (k0_off4 d) (k0_off4_inb d)) (g v) Finset.univ (View.stores_vmem_bits_univ h_S128x128 rfl) (.inl rfl))
  runList (gatherHop E (toD d) (chunk p (k0_off5 d) (k0_off5_inb d)) (chunk_exact p _ _) dst g (putOff d) (k0_off6_inb d)) hops

/-- The first gather: the barrier, the own block of `x` copied, the hops. -/
def first (E : Ends) (b : Sems sig S_) (d : Dev nD) (x : Memref sig .tc .vmem S128x128 .f32) (hx : x.IsWhole)
    (xf : Memref sig .tc .vmem S4096x128 .f32) : Pg F PUnit := do
  barrier (prD d) (nxD d) b
  let v : Vec F S128x128 .f32 ← Prog.lift (.load x (Rect.unit (s := S128x128) ![0, 0] S128x128.size inb_S128x128_S128x128_0_0).toLoadRect (View.loadsAt_vmem h_S128x128))
  let _ : Vec F S128x128 .f32 ← Prog.lift (.load xf (chunkRect (k0_off1 d) (k0_off1_inb d)).toLoadRect (View.loadsAt_vmem h_S128x128))
  Prog.lift (.store xf (chunkRect (k0_off1 d) (k0_off1_inb d)) (keep (keep v)) Finset.univ (View.stores_vmem_bits_univ h_S128x128 rfl) (.inl rfl))
  runList (gatherHop E (toD d) x hx.wordExact xf keep (addOff d) (k0_off2_inb d)) hops

/-- The whole body. -/
def body (arg0 : Memref sig .tc .vmem S128x128 .f32) (harg0 : arg0.IsWhole) (arg1 : Memref sig .tc .vmem S128x256 .f32)
    (arg2 : Memref sig .tc .vmem S256x128 .f32) (arg3 : Memref sig .tc .vmem S128x256 .f32) (arg4 : Memref sig .tc .vmem S256x128 .f32)
    (arg5 : Memref sig .tc .vmem S128x256 .f32) (arg6 : Memref sig .tc .vmem S256x128 .f32)
    (arg7 arg8 arg9 : Memref sig .tc .vmem S4096x128 .f32) (arg10 : Memref sig .tc .vmem S31x128x128 .f32)
    (arg11 arg12 : DmaSems sig S31) (arg13 : Sems sig S_) : Pg F PUnit := do
  let d : Dev nD ← Prog.lift .deviceId
  first ⟨arg10, arg11, arg12⟩ arg13 d arg0 harg0 arg8
  layer ⟨arg10, arg11, arg12⟩ arg13 d arg8 arg9 arg8 keep arg1 arg2
  layer ⟨arg10, arg11, arg12⟩ arg13 d arg8 arg9 arg8 keep arg3 arg4
  layer ⟨arg10, arg11, arg12⟩ arg13 d arg8 arg9 arg7 (fun v => v) arg5 arg6

set_option maxHeartbeats 4000000 in
/-- The printed body is that program. -/
theorem body_eq (arg0 : Memref sig .tc .vmem S128x128 .f32) (harg0 : arg0.IsWhole) (arg1 : Memref sig .tc .vmem S128x256 .f32) (harg1 : arg1.IsWhole) (arg2 : Memref sig .tc .vmem S256x128 .f32) (harg2 : arg2.IsWhole) (arg3 : Memref sig .tc .vmem S128x256 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S256x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S31x128x128 .f32) (harg10 : arg10.IsWhole) (arg11 : DmaSems sig S31) (arg12 : DmaSems sig S31) (arg13 : Sems sig S_) :
    cc0_body (F := F) arg0 harg0 arg1 harg1 arg2 harg2 arg3 harg3 arg4 harg4 arg5 harg5 arg6 harg6 arg7 harg7 arg8 harg8 arg9 harg9 arg10 harg10 arg11 arg12 arg13
      = body arg0 harg0 arg1 arg2 arg3 arg4 arg5 arg6 arg7 arg8 arg9 arg10 arg11 arg12 arg13 := by
  chain_rfl

end Cert.RingMlp

end
-- ==== Proof.Around.lean ====
/- The ring of thirty-two devices: the neighbours, the chunk a device is at after so many steps back, the numbers the program
   computes for them, and the kernel's semaphores by kind. -/
module

public import proofs.«01_k».proof.Proof.Shape

@[expose] public section

set_option maxRecDepth 16384

noncomputable section

namespace Cert.RingMlp

open Cert.KernelIdeal Cert.KernelIdeal.Gen
open Idealize.ShloMosaic Idealize.ShloMosaic.TcCoe Idealize.SL.Sem

/-! ## Steps around the ring -/

set_option backward.proofsInPublic true in
/-- `k` steps against the ring's sense from `c`. -/
def back (c : Dev nD) (k : ℕ) : Dev nD := ⟨(c.val + (32 - k % 32)) % 32, Nat.mod_lt _ (by decide)⟩
set_option backward.proofsInPublic true in
/-- One step with it, and one against it. -/
def nxt (c : Dev nD) : Dev nD := ⟨(c.val + 1) % 32, Nat.mod_lt _ (by decide)⟩
def prv (c : Dev nD) : Dev nD := back c 1
/-- How many steps back from `b` one meets `j`. -/
def dist (b j : Dev nD) : ℕ := (b.val + 32 - j.val) % 32

theorem val_lt (c : Dev nD) : c.val < 32 := c.isLt

theorem back_zero (c : Dev nD) : back c 0 = c := Fin.ext (by have := val_lt c; simp only [back]; try omega)
theorem back_nxt (c : Dev nD) (k : ℕ) (hk : k < 31) : back (nxt c) (k + 1) = back c k :=
  Fin.ext (by have := val_lt c; simp only [back, nxt]; try omega)
theorem back_last (c : Dev nD) : back c 31 = nxt c := Fin.ext (by have := val_lt c; simp only [back, nxt]; try omega)
theorem nxt_back_last (c : Dev nD) : back (nxt c) 31 = nxt (nxt c) := back_last _
theorem prv_nxt (c : Dev nD) : prv (nxt c) = c := Fin.ext (by have := val_lt c; simp only [prv, back, nxt]; try omega)
theorem nxt_prv (c : Dev nD) : nxt (prv c) = c := Fin.ext (by have := val_lt c; simp only [prv, back, nxt]; try omega)
theorem dist_lt (b j : Dev nD) : dist b j < 32 := Nat.mod_lt _ (by decide)
theorem dist_back (b : Dev nD) (k : ℕ) (hk : k < 32) : dist b (back b k) = k := by
  have := val_lt b; simp only [dist, back]; omega
theorem back_dist (b j : Dev nD) : back b (dist b j) = j :=
  Fin.ext (by have := val_lt b; have := val_lt j; simp only [dist, back]; omega)
theorem dist_self (b : Dev nD) : dist b b = 0 := by have := val_lt b; simp only [dist]; omega
theorem eq_back_of_dist {b j : Dev nD} {k : ℕ} (h : dist b j = k) : j = back b k := by rw [← h, back_dist]
theorem dist_nxt (c : Dev nD) : dist c (nxt c) = 31 := by have := val_lt c; simp only [dist, nxt]; omega

/-- The ring as a permutation of the devices. -/
def ring : Dev nD ≃ Dev nD := ⟨nxt, prv, prv_nxt, nxt_prv⟩

/-! ## The numbers the program computes -/

theorem prD_eq (d : Dev nD) : prD d = prv d :=
  Fin.ext ((by decide +kernel : ∀ d : Dev nD, k0_dev1 d = (prv d).val) d)
theorem nxD_eq (d : Dev nD) : nxD d = nxt d :=
  Fin.ext ((by decide +kernel : ∀ d : Dev nD, k0_dev2 d = (nxt d).val) d)
theorem toD_eq (d : Dev nD) : toD d = nxt d :=
  Fin.ext ((by decide +kernel : ∀ d : Dev nD, k0_dev3 d = (nxt d).val) d)

/-- The offset of chunk `j`. -/
abbrev chunkOff (j : Dev nD) : Fin 2 → Nat := ![128 * j.val, 0]
theorem chunkOff_inb (j : Dev nD) : ∀ a, chunkOff j a + S128x128.size a ≤ S4096x128.size a :=
  (by decide +kernel : ∀ j : Dev nD, ∀ a, chunkOff j a + S128x128.size a ≤ S4096x128.size a) j

theorem off1_eq (d : Dev nD) : k0_off1 d = chunkOff d := (by decide +kernel : ∀ d : Dev nD, k0_off1 d = chunkOff d) d
theorem off4_eq (d : Dev nD) : k0_off4 d = chunkOff (nxt d) := (by decide +kernel : ∀ d : Dev nD, k0_off4 d = chunkOff (nxt d)) d
theorem off5_eq (d : Dev nD) : k0_off5 d = chunkOff (nxt d) := (by decide +kernel : ∀ d : Dev nD, k0_off5 d = chunkOff (nxt d)) d
theorem sendOff_eq (d : Dev nD) (h : Fin 31) : sendOff d h = chunkOff (back d h.val) :=
  (by decide +kernel : ∀ d : Dev nD, ∀ h : Fin 31, sendOff d h = chunkOff (back d h.val)) d h
theorem addOff_eq (d : Dev nD) (h : Fin 31) : addOff d h = chunkOff (back d (h.val + 1)) :=
  (by decide +kernel : ∀ d : Dev nD, ∀ h : Fin 31, addOff d h = chunkOff (back d (h.val + 1))) d h
theorem putOff_eq (d : Dev nD) (h : Fin 31) : putOff d h = chunkOff (back (nxt d) (h.val + 1)) :=
  (by decide +kernel : ∀ d : Dev nD, ∀ h : Fin 31, putOff d h = chunkOff (back (nxt d) (h.val + 1))) d h

/-- Chunk `j` of a buffer of thirty-two chunks. -/
abbrev part (p : Memref sig .tc .vmem S4096x128 .f32) (j : Dev nD) : Memref sig .tc .vmem S128x128 .f32 :=
  chunk p (chunkOff j) (chunkOff_inb j)

/-! ## The kernel's arrays and semaphores -/

/-- The staging buffer of the own block of `x`; the gathered rows, the partial products, the result; the landing slots. -/
abbrev xB : Memref sig .tc .vmem S128x128 .f32 := Memref.whole cc0_stg0_0
abbrev fB : Memref sig .tc .vmem S4096x128 .f32 := Memref.whole cc0_scratch0
abbrev pB : Memref sig .tc .vmem S4096x128 .f32 := Memref.whole cc0_scratch1
abbrev oB : Memref sig .tc .vmem S4096x128 .f32 := Memref.whole cc0_stg7_0
abbrev cB : Memref sig .tc .vmem S31x128x128 .f32 := Memref.whole cc0_scratch2
abbrev barS : Sems sig S_ := cc0_scratch5
abbrev ends : Ends := ⟨cB, cc0_scratch3, cc0_scratch4⟩

/-- The semaphores of a device by what they are for: the barrier's, a hop's two, the rest. -/
inductive Use where
  | bar
  | send (h : Fin 31)
  | recv (h : Fin 31)
  | other
deriving DecidableEq

/-- What a semaphore is for. -/
def use : SemLoc sig → Use
  | .reg _ => .bar
  | .dma s => if h : 8 ≤ s.val ∧ s.val < 39 then .send ⟨s.val - 8, by omega⟩
      else if h : 39 ≤ s.val ∧ s.val < 70 then .recv ⟨s.val - 39, by omega⟩ else .other

/-- The barrier's semaphore of a device, and hop `h`'s two. -/
abbrev barCell (c : Dev nD) : GSem nD τ sig := ((c : Thread nD τ), .reg barS.sem)
abbrev sendCell (c : Dev nD) (h : Fin 31) : GSem nD τ sig := ((c : Thread nD τ), .dma (semAt cc0_scratch3 h))
abbrev recvCell (c : Dev nD) (h : Fin 31) : GSem nD τ sig := ((c : Thread nD τ), .dma (semAt cc0_scratch4 h))

theorem use_bar (s : Sem sig) : use (.reg s) = .bar := rfl
theorem use_send (h : Fin 31) : use (.dma (semAt cc0_scratch3 h)) = .send h :=
  (by decide +kernel : ∀ h : Fin 31, use (.dma (semAt cc0_scratch3 h)) = .send h) h
theorem use_recv (h : Fin 31) : use (.dma (semAt cc0_scratch4 h)) = .recv h :=
  (by decide +kernel : ∀ h : Fin 31, use (.dma (semAt cc0_scratch4 h)) = .recv h) h

/-- The kernel's own semaphores, listed. -/
abbrev Own : Type := Unit ⊕ (Fin 31 ⊕ Fin 31)
def own : Own → SemLoc sig
  | .inl _ => .reg barS.sem
  | .inr (.inl h) => .dma (semAt cc0_scratch3 h)
  | .inr (.inr h) => .dma (semAt cc0_scratch4 h)

/-- What a transfer of one block is counted by. -/
abbrev N : ℕ := (slot cB 0).view.dmaCredit
theorem N_pos : 0 < N := View.dmaCredit_pos _ (by decide)
theorem N_slot (h : Fin 31) : (slot cB h).view.dmaCredit = N := rfl
theorem N_part_f (j : Dev nD) : (part fB j).view.dmaCredit = N := rfl
theorem N_part_p (j : Dev nD) : (part pB j).view.dmaCredit = N := rfl
theorem N_part_o (j : Dev nD) : (part oB j).view.dmaCredit = N := rfl
theorem N_x : xB.view.dmaCredit = N := rfl

end Cert.RingMlp

end
-- ==== Proof.Proto.lean ====
/- The protocol. Each device has one barrier semaphore and, for each hop, a semaphore of departure and one of arrival; the
   seven phases are seven rounds of each. A barrier round has two units: the next device's unit hands over that device's
   landing slots, the previous device's nothing. A departure hands the sent memory back; an arrival hands over the slot
   with the block in it, and that a device further up the ring has entered the phase. -/
module

public import proofs.«01_k».proof.Proof.Around
public import Idealize.ShloMosaic.Lib.Pipeline.Launch
public import Idealize.ShloMosaic.Lib.Tactic
public import Mathlib.Algebra.Order.BigOperators.Group.LocallyFinite
public import proofs.«01_k».proof.Proof.Gen.KernelIdeal.Launch
public import proofs.«01_k».proof.Proof.Gen.KernelIdeal.Points

@[expose] public section

set_option maxRecDepth 16384

noncomputable section

namespace Cert.RingMlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra: the pipeline's rounds, and the ring's beside them -/

abbrev UP : Type := URounds (GSem nD τ sig) Unit
abbrev UR : Type := URounds (GSem nD τ sig) Bool
abbrev UU : Type := UP × UR

local notation "𝕄" => MT nD τ sig ℕ (Elt F) ℕ UU ℕ

def EP : Emb UP (MT nD τ sig ℕ (Elt F) ℕ UU ℕ) :=
  (Emb.inl : Emb UP UU).trans (uEmb (nD := nD) (sig := sig) (Ix := ℕ) (Val := Elt F) (Name := ℕ) (U := UU) (Lvl := ℕ)).toEmb
def ER : Emb UR (MT nD τ sig ℕ (Elt F) ℕ UU ℕ) :=
  (Emb.inr : Emb UR UU).trans (uEmb (nD := nD) (sig := sig) (Ix := ℕ) (Val := Elt F) (Name := ℕ) (U := UU) (Lvl := ℕ)).toEmb

instance EP_landsIn : (EP : Emb UP 𝕄).LandsIn (upEmb : UEmb _ 𝕄) := by unfold EP; infer_instance
instance ER_landsIn : (ER : Emb UR 𝕄).LandsIn (upEmb : UEmb _ 𝕄) := by unfold ER; infer_instance

/-- A block of 128 rows. -/
abbrev Blk (F : FTy → Type) : Type := S128x128.Idx → Elt F .f32

/-- The memory of a view on device `c`, holding the block `v`. -/
def holds (V : Memref sig .tc .vmem S128x128 .f32) (c : Dev nD) (v : Blk F) : sProp 𝕄 :=
  iprop(∃ f : Buf (Elt F) (V.view.loc (c : Thread nD τ)), ⌜V.view.read (Elt F) f = v⌝ ∗ (V.view.loc (c : Thread nD τ) ↦[V.view.set]{fullShare} f))

instance holds_storable (V : Memref sig .tc .vmem S128x128 .f32) (c : Dev nD) (v : Blk F) :
    BI.Storable (upEmb : UEmb _ 𝕄) (holds V c v) := by unfold holds; infer_instance

/-- What hop `h` of phase `r` sends from device `c`. -/
def srcOf (r : ℕ) (h : Fin 31) (c : Dev nD) : Memref sig .tc .vmem S128x128 .f32 :=
  if r = 0 then fwd ends xB h else if r % 2 = 1 then part pB (back c h.val) else fwd ends (part pB (nxt c)) h

/-- The blocks that land: phase, hop, receiving device. -/
abbrev Plan (F : FTy → Type) : Type := ℕ → Fin 31 → Dev nD → Blk F

/-- The slots of device `d`, at anything, and that `d` has reached round `r` of its arrivals. -/
def slotsAt (d : Dev nD) (r : ℕ) : sProp 𝕄 :=
  bigSep (Finset.univ : Finset (Fin 31)) fun h => iprop((∃ v : Blk F, holds (slot cB h) d v) ∗ reached ER (recvCell d h) r)

instance slotsAt_storable (d : Dev nD) (r : ℕ) : BI.Storable (upEmb : UEmb _ 𝕄) (slotsAt (F := F) d r) := by
  unfold slotsAt; infer_instance

/-- What the units of a cell hand its owner. -/
def pay (dt : Plan F) (c : Dev nD) (r : ℕ) (b : Bool) : Use → sProp 𝕄
  | .bar => if b then slotsAt (nxt c) r else iprop(emp)
  | .send h => holds (srcOf r h c) c (dt r h (nxt c))
  | .recv h => iprop(holds (slot cB h) c (dt r h c) ∗ reached ER (barCell (back c (h.val + 1))) (r + 1))
  | .other => iprop(emp)

/-- Who pays a cell. -/
def dutiesOf : Use → Finset Bool
  | .bar => Finset.univ
  | .send _ => {false}
  | .recv _ => {false}
  | .other => ∅

/-- The units of a duty. -/
def unitsOf : Use → ℕ
  | .bar => 1
  | _ => N

/-- The schedule: seven rounds on each cell of the ring. -/
def sched (dt : Plan F) : Rounds.Schedule (GSem nD τ sig) Bool 𝕄 where
  duties g r := if r < 7 ∧ g.1.2 = .tc then dutiesOf (use g.2) else ∅
  unitless _ := False
  amount g _ _ := unitsOf (use g.2)
  payload g r b := pay dt g.1.1 r b (use g.2)
  amount_pos g _ _ _ := by
    show 0 < unitsOf (use g.2)
    cases use g.2 <;> first | exact Nat.one_pos | exact N_pos

instance pay_storable (dt : Plan F) (c : Dev nD) (r : ℕ) (b : Bool) (u : Use) : BI.Storable (upEmb : UEmb _ 𝕄) (pay dt c r b u) := by
  cases u <;> cases b <;> unfold pay <;> first | infer_instance | (rw [if_pos rfl]; infer_instance) | (rw [if_neg (by decide)]; infer_instance)
instance sched_storable (dt : Plan F) (g : GSem nD τ sig) (r : ℕ) (b : Bool) :
    BI.Storable (upEmb : UEmb _ 𝕄) ((sched (F := F) dt).payload g r b) := by
  show BI.Storable upEmb (pay dt g.1.1 r b (use g.2)); infer_instance

/-! ### The schedule, computed -/

section Sched

variable (dt : Plan F) (c : Dev nD) (h : Fin 31) (r : ℕ) (b : Bool)

omit [FloatOps F]

theorem duties_bar (hr : r < 7) : (sched dt).duties (barCell c) r = Finset.univ := if_pos ⟨hr, rfl⟩
theorem duties_send (hr : r < 7) : (sched dt).duties (sendCell c h) r = {false} := by
  show (if r < 7 ∧ _ then dutiesOf (use (.dma (semAt cc0_scratch3 h))) else ∅) = _
  rw [if_pos ⟨hr, rfl⟩, use_send]; rfl
theorem duties_recv (hr : r < 7) : (sched dt).duties (recvCell c h) r = {false} := by
  show (if r < 7 ∧ _ then dutiesOf (use (.dma (semAt cc0_scratch4 h))) else ∅) = _
  rw [if_pos ⟨hr, rfl⟩, use_recv]; rfl
theorem duties_later (g : GSem nD τ sig) : ∀ r, 7 ≤ r → (sched dt).duties g r = ∅ :=
  fun r hr => if_neg fun h => absurd h.1 (by omega)

theorem amount_bar : (sched dt).amount (barCell c) r b = 1 := rfl
theorem amount_send : (sched dt).amount (sendCell c h) r b = N := by
  show unitsOf (use (.dma (semAt cc0_scratch3 h))) = _; rw [use_send]; rfl
theorem amount_recv : (sched dt).amount (recvCell c h) r b = N := by
  show unitsOf (use (.dma (semAt cc0_scratch4 h))) = _; rw [use_recv]; rfl

theorem expect_bar (hr : r < 7) : (sched dt).expect (barCell c) r = 2 := by
  unfold Schedule.expect Schedule.amountOf; rw [duties_bar dt c r hr]; rfl
theorem expect_send (hr : r < 7) : (sched dt).expect (sendCell c h) r = N := by
  unfold Schedule.expect Schedule.amountOf; rw [duties_send dt c h r hr, Finset.sum_singleton, amount_send]
theorem expect_recv (hr : r < 7) : (sched dt).expect (recvCell c h) r = N := by
  unfold Schedule.expect Schedule.amountOf; rw [duties_recv dt c h r hr, Finset.sum_singleton, amount_recv]

theorem payload_barF : (sched dt).payload (barCell c) r false = iprop(emp) := rfl
theorem payload_barT : (sched dt).payload (barCell c) r true = slotsAt (nxt c) r := rfl
theorem payload_send : (sched dt).payload (sendCell c h) r b = holds (srcOf r h c) c (dt r h (nxt c)) := by
  show pay dt c r b (use (.dma (semAt cc0_scratch3 h))) = _; rw [use_send]; rfl
theorem payload_recv : (sched dt).payload (recvCell c h) r b
    = iprop(holds (slot cB h) c (dt r h c) ∗ reached ER (barCell (back c (h.val + 1))) (r + 1)) := by
  show pay dt c r b (use (.dma (semAt cc0_scratch4 h))) = _; rw [use_recv]; rfl

theorem rest_send (hr : r < 7) : bigSep ((sched dt).duties (sendCell c h) r \ ∅) (fun b => (sched dt).payload (sendCell c h) r b)
    = holds (srcOf r h c) c (dt r h (nxt c)) := by
  rw [Finset.sdiff_empty, duties_send dt c h r hr, bigSep_singleton, payload_send]
theorem rest_recv (hr : r < 7) : bigSep ((sched dt).duties (recvCell c h) r \ ∅) (fun b => (sched dt).payload (recvCell c h) r b)
    = iprop(holds (slot cB h) c (dt r h c) ∗ reached ER (barCell (back c (h.val + 1))) (r + 1)) := by
  rw [Finset.sdiff_empty, duties_recv dt c h r hr, bigSep_singleton, payload_recv]
theorem rest_bar (hr : r < 7) : bigSep ((sched dt).duties (barCell c) r \ ∅) (fun b => (sched dt).payload (barCell c) r b)
    ⊢ slotsAt (nxt c) r := by
  rw [Finset.sdiff_empty, duties_bar dt c r hr]
  exact (bigSep_elim (Finset.mem_univ true)).trans (Entails.of_eq (payload_barT dt c r))

end Sched

/-! ## What a device owes, by time

Time `32 * r` is phase `r`'s barrier, time `32 * r + 1 + h` its hop `h`; what is paid at time `t` has index and level `t + 1`. -/

theorem hop_lt {t : ℕ} (h : ¬ t % 32 = 0) : t % 32 - 1 < 31 := by omega

/-- What device `c` pays at time `t`. -/
def due (c : Dev nD) (t : ℕ) : CellTallies nD τ sig ℕ :=
  if h : t % 32 = 0 then tallyAt (barCell (prv c)) (t + 1) 1 + tallyAt (barCell (nxt c)) (t + 1) 1
  else tallyAt (recvCell (nxt c) ⟨t % 32 - 1, hop_lt h⟩) (t + 1) N

/-- What it still owes at time `t`. -/
def owed (c : Dev nD) (t : ℕ) : CellTallies nD τ sig ℕ := ∑ s ∈ Finset.Ico t 224, due c s

theorem owed_end (c : Dev nD) : owed c 224 = 0 := rfl
theorem owed_step (c : Dev nD) {t : ℕ} (ht : t < 224) : owed c t = due c t + owed c (t + 1) := by
  unfold owed; rw [Finset.sum_eq_sum_Ico_succ_bot ht]
theorem due_bar (c : Dev nD) (r : ℕ) : due c (32 * r) = tallyAt (barCell (prv c)) (32 * r + 1) 1 + tallyAt (barCell (nxt c)) (32 * r + 1) 1 := by
  unfold due; rw [dif_pos (by omega)]
theorem due_hop (c : Dev nD) (r : ℕ) (h : Fin 31) : due c (32 * r + 1 + h.val) = tallyAt (recvCell (nxt c) h) (32 * r + 1 + h.val + 1) N := by
  unfold due
  rw [dif_neg (by have := h.isLt; omega)]
  congr 2
  exact Fin.ext (by have := h.isLt; simp only; omega)

theorem tally_pos {g g' : GSem nD τ sig} {i i' n : ℕ} (h : 0 < tallyAt g i n g' i') : g' = g ∧ i' = i := by
  rw [tallyAt_apply] at h
  by_contra hn
  rw [if_neg hn] at h
  exact Nat.lt_irrefl 0 h

theorem due_pos {c : Dev nD} {t : ℕ} {g : GSem nD τ sig} {i : ℕ} (h : 0 < due c t g i) : i = t + 1 ∧ g.1.2 = .tc := by
  unfold due at h
  split at h
  · rw [Pi.add_apply, Finsupp.add_apply] at h
    rcases Nat.add_pos_iff_pos_or_pos.mp h with h | h <;> obtain ⟨rfl, rfl⟩ := tally_pos h <;> exact ⟨rfl, rfl⟩
  · obtain ⟨rfl, rfl⟩ := tally_pos h; exact ⟨rfl, rfl⟩

theorem owed_pos {c : Dev nD} {t : ℕ} {g : GSem nD τ sig} {i : ℕ} (h : 0 < owed c t g i) : t < i ∧ i < 226 ∧ g.1.2 = .tc := by
  unfold owed at h
  rw [Finset.sum_apply, Finsupp.finset_sum_apply] at h
  obtain ⟨s, hs, hp⟩ := Finset.exists_ne_zero_of_sum_ne_zero (Nat.pos_iff_ne_zero.mp h)
  obtain ⟨rfl, hg⟩ := due_pos (Nat.pos_of_ne_zero hp)
  rw [Finset.mem_Ico] at hs
  exact ⟨by omega, by omega, hg⟩

/-- The levels: a duty's index. -/
def L (g : GSem nD τ sig) : Finset ℕ := if g.1.2 = .tc then Finset.range 226 else ∅
def lv (_ : GSem nD τ sig) (i : ℕ) : ℕ := i

theorem L_of_ne (g : GSem nD τ sig) (h : g.1.2 ≠ .tc) : L g = ∅ := if_neg h
theorem L_tc (c : Dev nD) (sm : SemLoc sig) : L ((c : Thread nD τ), sm) = Finset.range 226 := if_pos rfl

omit [FloatOps F] in
/-- A wait at an index not above the time, owing what is owed from that time on. -/
theorem mayWait (c : Dev nD) (sm : SemLoc sig) (i t : ℕ) (hi : i ≤ t) (ht : t ≤ 224) :
    (levAts L lv : sProp 𝕄) ⊢ MayWait (c : Thread nD τ) sm i (owed c t) :=
  MayOwe.of_cut (L := L) (lev := lv) t
    (fun p hp => by rw [Finset.mem_singleton.mp hp, L_tc]; exact Finset.mem_range.mpr (by show i < 226; omega))
    (fun g i hg => by obtain ⟨_, h2, h3⟩ := owed_pos hg; unfold L; rw [if_pos h3]; exact Finset.mem_range.mpr h2)
    (fun p hp => by rw [Finset.mem_singleton.mp hp]; exact hi)
    (fun g i hg => (owed_pos hg).1)

end Cert.RingMlp

end
-- ==== Proof.Hop.lean ====
/- One hop's transfer with its two waits, and the barrier. -/
module

public import proofs.«01_k».proof.Proof.Proto

@[expose] public section

set_option maxRecDepth 16384

noncomputable section

namespace Cert.RingMlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- The weakest precondition on device `c`. -/
abbrev run (c : Dev nD) {α : Type} (p : Pg F α) (Q : α → sProp 𝕄) : sProp 𝕄 :=
  wp frame (wpE (defs₀ (F := F)) 𝒱₀ (c : Thread nD τ) none) Set.univ p Q

/-- The cells, listed. -/
abbrev kcell (ck : Dev nD × Own) : GSem nD τ sig := ((ck.1 : Thread nD τ), own ck.2)

/-- What everybody knows: every cell's invariant, and the levels. -/
def ctx (K : Dev nD × Own → ℕ) (dt : Plan F) : sProp 𝕄 :=
  iprop((bigSep (Finset.univ : Finset (Dev nD × Own)) fun ck => cellInv ER (sched dt) (K ck) (kcell ck)) ∗ levAts L lv)

instance ctx_persistent (K : Dev nD × Own → ℕ) (dt : Plan F) : BI.Persistent (ctx K dt) := by unfold ctx; infer_instance

section Ctx
variable (K : Dev nD × Own → ℕ) (dt : Plan F)
omit [FloatOps F]

theorem ctx_inv (ck : Dev nD × Own) : ctx K dt ⊢ cellInv ER (sched dt) (K ck) (kcell ck) := by
  unfold ctx
  have h : (bigSep (Finset.univ : Finset (Dev nD × Own)) fun ck => cellInv ER (sched dt) (K ck) (kcell ck)) ⊢ (cellInv ER (sched dt) (K ck) (kcell ck) : sProp 𝕄) :=
    bigSep_elim (Finset.mem_univ ck)
  iintro ⟨H, -⟩
  iapply h; iexact H

theorem ctx_bar (c : Dev nD) : ctx K dt ⊢ cellInv ER (sched dt) (K (c, .inl ())) (barCell c) := ctx_inv K dt _
theorem ctx_send (c : Dev nD) (h : Fin 31) : ctx K dt ⊢ cellInv ER (sched dt) (K (c, .inr (.inl h))) (sendCell c h) := ctx_inv K dt (c, .inr (.inl h))
theorem ctx_recv (c : Dev nD) (h : Fin 31) : ctx K dt ⊢ cellInv ER (sched dt) (K (c, .inr (.inr h))) (recvCell c h) := ctx_inv K dt (c, .inr (.inr h))
theorem ctx_lev : ctx K dt ⊢ (levAts L lv : sProp 𝕄) := by
  unfold ctx
  iintro ⟨-, H⟩; iexact H
end Ctx

/-- What device `c` owes, its recorded pairs forgotten. -/
def debt (c : Dev nD) (t : ℕ) : sProp 𝕄 := iprop(∃ W, owes (c : Thread nD τ) (owed c t) W)

/-- What a hop uses of the protocol: its two tokens, that the rounds are reached, the credit, the two positions. -/
def hopIn (c : Dev nD) (r : ℕ) (h : Fin 31) : sProp 𝕄 :=
  iprop(dutyTok ER (sendCell c h) r false ∗ reached ER (sendCell c h) r
    ∗ dutyTok ER (recvCell (nxt c) h) r false
    ∗ cred (tallyAt (recvCell c h) (32 * r + 1 + h.val + 1) N)
    ∗ atPos ER (sendCell c h) r ∅ 0 ∗ atPos ER (recvCell c h) r ∅ 0)
/-- And what it leaves: the two positions a round on. -/
def hopOut (c : Dev nD) (r : ℕ) (h : Fin 31) : sProp 𝕄 :=
  iprop(atPos ER (sendCell c h) r ∅ 0 ∗ reached ER (sendCell c h) r ∗ atPos ER (recvCell c h) r ∅ 0 ∗ reached ER (recvCell c h) r)
/-- The slot of the device ahead. -/
def slotIn (d : Dev nD) (r : ℕ) (h : Fin 31) : sProp 𝕄 :=
  iprop((∃ v : Blk F, holds (slot cB h) d v) ∗ reached ER (recvCell d h) r)

set_option maxHeartbeats 1000000 in
theorem xfer_wp (K : Dev nD × Own → ℕ) (dt : Plan F) (c n : Dev nD) (hn : n = nxt c) (r : ℕ) (hr : r < 7) (h : Fin 31)
    (src : Memref sig .tc .vmem S128x128 .f32) (hs : src.view.WordExact) (hsrc : srcOf r h c = src) (hN : src.view.dmaCredit = N)
    (Q : PUnit → sProp 𝕄) :
    iprop(ctx K dt ∗ holds src c (dt r h (nxt c)) ∗ slotIn (nxt c) r h ∗ debt c (32 * r + 1 + h.val) ∗ hopIn c r h
        ∗ reached ER (barCell (back c h.val)) (r + 1))
      ⊢ iprop(((holds src c (dt r h (nxt c)) ∗ holds (slot cB h) c (dt r h c) ∗ debt c (32 * r + 1 + h.val + 1) ∗ hopOut c (r + 1) h
          ∗ reached ER (barCell (back c (h.val + 1))) (r + 1)) -∗ Q ⟨⟩) -∗ run c (xfer ends n src hs h) Q) := by
  subst hn
  subst hsrc
  unfold run xfer
  simp only [Prog.lift, Prog.bind_op, Prog.bind_ret]
  have ht : 32 * r + 1 + h.val < 224 := by have := h.isLt; omega
  have hO1 : owed c (32 * r + 1 + h.val) = owed c (32 * r + 1 + h.val + 1) + tallyAt (recvCell (nxt c) h) (32 * r + 1 + h.val + 1) N := by
    rw [owed_step c ht, due_hop, add_comm]
  iintro ⟨#HC, Hsrc, Hslot, HD, Hin, #HrB⟩ Hk
  unfold slotIn hopIn debt
  icases Hslot with ⟨⟨%v, Hslot⟩, #HrV⟩
  icases Hin with ⟨HtS, #HrS, HtR, Hcr, HaS, HaR⟩
  icases HD with ⟨%W, HO⟩
  unfold holds
  icases Hsrc with ⟨%fs, %hfs, Hsrc⟩
  icases Hslot with ⟨%fd, %hfd, Hslot⟩
  iapply (Rounds.wp_send_pointsTo_with 𝒱₀ ER (sched dt) (c : Thread nD τ) none
      (κ₁ := K (c, .inr (.inl h))) (κ₂ := K (nxt c, .inr (.inr h))) (r₁ := r) (r₂ := r) (d₁ := false) (d₂ := false) (fd := fd)
      (F := reached ER (barCell (back c h.val)) (r + 1))
      (by rw [show ((c : Thread nD τ), SemLoc.dma (semAt ends.ss h)) = sendCell c h from rfl, duties_send dt c h r hr]; exact Finset.mem_singleton_self _)
      (by rw [show (Dev.tc (nxt c), SemLoc.dma (semAt ends.rs h)) = recvCell (nxt c) h from rfl, duties_recv dt (nxt c) h r hr]; exact Finset.mem_singleton_self _)
      (32 * r + 1 + h.val + 1) 0 N (by rfl) (amount_send dt c h r false) (amount_recv dt (nxt c) h r false)
      (owed c (32 * r + 1 + h.val + 1)) hO1 (W := W)
      (by
        rw [show ((c : Thread nD τ), SemLoc.dma (semAt ends.ss h)) = sendCell c h from rfl, payload_send]
        unfold holds
        iintro H; iexists fs; isplitr; · ipureintro; exact hfs
        iexact H)
      (by
        rw [show (Dev.tc (nxt c), SemLoc.dma (semAt ends.rs h)) = recvCell (nxt c) h from rfl, payload_recv, back_nxt c h.val h.isLt]
        unfold holds
        iintro ⟨H, HF⟩
        isplitl [H]
        · iexists ((slot cB h).view.write (Elt F) fd ((srcOf r h c).view.read (Elt F) fs) Finset.univ)
          isplitr
          · ipureintro
            exact (View.read_write_univ _ _).trans hfs
          iexact H
        iexact HF)) $$ [Hsrc Hslot HO HtS HtR]
  · isplitr; · iapply (ctx_send K dt c h); iexact HC
    isplitr; · iapply (ctx_recv K dt (nxt c) h); iexact HC
    isplitl [Hsrc]; · iexact Hsrc
    isplitl [Hslot]
    · isplitl [Hslot]; · iexact Hslot
      iexact HrB
    isplitl [HO]; · iexact HO
    isplitl [HtS]; · iexact HtS
    isplitr; · iexact HrS
    isplitl [HtR]; · iexact HtR
    iexact HrV
  iintro ⟨HcS, HO⟩
  iapply (Rounds.wp_wait_rest_token 𝒱₀ ER (sched dt) (c : Thread nD τ) none (κ := K (c, .inr (.inl h)))
      (wpE_waitDma2_eq 𝒱₀ (c : Thread nD τ) none Set.univ) (Set.mem_univ _) 0 (O := owed c (32 * r + 1 + h.val + 1)) (W := W) (R := r) (m := 0) (T := ∅)
      (by rw [Nat.zero_add, hN]; exact (expect_send dt c h r hr).symm)) $$ [HcS HO HaS]
  · isplitr; · iapply (ctx_send K dt c h); iexact HC
    isplitl [HcS]; · rw [hN]; iexact HcS
    isplitl [HO]; · iexact HO
    isplitr; · iapply (mayWait c _ 0 _ (Nat.zero_le _) ht); iapply (ctx_lev K dt); iexact HC
    iexact HaS
  iintro ⟨HO, HaS, #HrS', Hpay⟩
  ihave Hsrc := (Entails.of_eq (rest_send dt c h r hr)) $$ Hpay
  iapply (Rounds.wp_wait_rest_token 𝒱₀ ER (sched dt) (c : Thread nD τ) none (κ := K (c, .inr (.inr h)))
      (wpE_waitDma2_eq 𝒱₀ (c : Thread nD τ) none Set.univ) (Set.mem_univ _) (32 * r + 1 + h.val + 1) (O := owed c (32 * r + 1 + h.val + 1))
      (W := insert (SemLoc.dma (semAt ends.ss h), 0) W) (R := r) (m := 0) (T := ∅)
      (by rw [Nat.zero_add]; exact (expect_recv dt c h r hr).symm)) $$ [Hcr HO HaR]
  · isplitr; · iapply (ctx_recv K dt c h); iexact HC
    isplitl [Hcr]; · iexact Hcr
    isplitl [HO]; · iexact HO
    isplitr; · iapply (mayWait c _ _ _ (Nat.le_refl _) ht); iapply (ctx_lev K dt); iexact HC
    iexact HaR
  iintro ⟨HO, HaR, #HrR', Hpay⟩
  ihave Hp := (Entails.of_eq (rest_recv dt c h r hr)) $$ Hpay
  icases Hp with ⟨Hland, #HrB'⟩
  rw [wp_ret]
  imodintro
  iapply Hk
  isplitl [Hsrc]; · unfold holds; iexact Hsrc
  isplitl [Hland]; · unfold holds; iexact Hland
  isplitl [HO]; · iexists _; iexact HO
  isplitl [HaS HaR]
  · unfold hopOut
    isplitl [HaS]; · iexact HaS
    isplitr; · iexact HrS'
    isplitl [HaR]; · iexact HaR
    iexact HrR'
  iexact HrB'

/-- What a barrier uses: its two tokens, that the neighbours' rounds are reached, the credit, the position; and what it leaves. -/
def barIn (c : Dev nD) (r : ℕ) : sProp 𝕄 :=
  iprop(dutyTok ER (barCell (prv c)) r true ∗ dutyTok ER (barCell (nxt c)) r false
    ∗ reached ER (barCell (prv c)) r ∗ reached ER (barCell (nxt c)) r
    ∗ cred (tallyAt (barCell c) (32 * r + 1) 2) ∗ atPos ER (barCell c) r ∅ 0)

set_option maxHeartbeats 1000000 in
theorem barrier_wp (K : Dev nD × Own → ℕ) (dt : Plan F) (c : Dev nD) (r : ℕ) (hr : r < 7) (Q : PUnit → sProp 𝕄) :
    iprop(ctx K dt ∗ slotsAt c r ∗ debt c (32 * r) ∗ barIn c r)
      ⊢ iprop(((slotsAt (nxt c) r ∗ debt c (32 * r + 1) ∗ atPos ER (barCell c) (r + 1) ∅ 0 ∗ reached ER (barCell c) (r + 1)) -∗ Q ⟨⟩)
        -∗ run c (barrier (prD c) (nxD c) barS) Q) := by
  rw [prD_eq, nxD_eq]
  unfold run barrier
  simp only [semSignalWord, semWaitWord, Prog.lift, Prog.bind_op, Prog.bind_ret, Prog.pure_eq_ret]
  have ht : 32 * r < 224 := by omega
  have hO1 : owed c (32 * r) = (tallyAt (barCell (nxt c)) (32 * r + 1) 1 + owed c (32 * r + 1)) + tallyAt (barCell (prv c)) (32 * r + 1) 1 := by
    rw [owed_step c ht, due_bar]; exact (add_assoc _ _ _).trans (add_comm _ _)
  iintro ⟨#HC, Hsl, HD, Hin⟩ Hk
  unfold barIn debt
  icases Hin with ⟨HtP, HtN, #HrP, #HrN, Hcr, Ha⟩
  icases HD with ⟨%W, HO⟩
  iapply (Rounds.wp_signal 𝒱₀ ER (sched dt) (c : Thread nD τ) none (dst := (prv c : Thread nD τ)) (κ := K (prv c, .inl ()))
      (d := true) (r := r)
      (by rw [show ((prv c : Thread nD τ), SemLoc.reg barS.sem) = barCell (prv c) from rfl, duties_bar dt (prv c) r hr]; exact Finset.mem_univ _)
      ((amount_bar dt (prv c) r true).trans (by decide)) (32 * r + 1)
      (tallyAt (barCell (nxt c)) (32 * r + 1) 1 + owed c (32 * r + 1))
      hO1 (W := W)) $$ [HO HtP Hsl]
  · isplitr; · iapply (ctx_bar K dt (prv c)); iexact HC
    isplitl [HO]; · iexact HO
    isplitl [HtP]; · iexact HtP
    isplitl [Hsl]
    · rw [show ((prv c : Thread nD τ), SemLoc.reg barS.sem) = barCell (prv c) from rfl, payload_barT, nxt_prv]; iexact Hsl
    iexact HrP
  iintro HO
  iapply (Rounds.wp_signal 𝒱₀ ER (sched dt) (c : Thread nD τ) none (dst := (nxt c : Thread nD τ)) (κ := K (nxt c, .inl ()))
      (d := false) (r := r)
      (by rw [show ((nxt c : Thread nD τ), SemLoc.reg barS.sem) = barCell (nxt c) from rfl, duties_bar dt (nxt c) r hr]; exact Finset.mem_univ _)
      ((amount_bar dt (nxt c) r false).trans (by decide)) (32 * r + 1)
      (owed c (32 * r + 1))
      (by rw [add_comm]) (W := W)) $$ [HO HtN]
  · isplitr; · iapply (ctx_bar K dt (nxt c)); iexact HC
    isplitl [HO]; · iexact HO
    isplitl [HtN]; · iexact HtN
    isplitr
    · rw [show ((nxt c : Thread nD τ), SemLoc.reg barS.sem) = barCell (nxt c) from rfl, payload_barF]; iempintro
    iexact HrN
  iintro HO
  iapply (Rounds.wp_wait_rest_token 𝒱₀ ER (sched dt) (c : Thread nD τ) none (κ := K (c, .inl ()))
      (wpE_semWait_eq 𝒱₀ (c : Thread nD τ) none Set.univ) (Set.mem_univ _) (32 * r + 1) (O := owed c (32 * r + 1)) (W := W) (R := r) (m := 0) (T := ∅)
      (by rw [show ((c : Thread nD τ), SemLoc.reg barS.sem) = barCell c from rfl, expect_bar dt c r hr]; decide)) $$ [Hcr HO Ha]
  · isplitr; · iapply (ctx_bar K dt c); iexact HC
    isplitl [Hcr]; · iexact Hcr
    isplitl [HO]; · iexact HO
    isplitr; · iapply (mayWait c _ _ _ (Nat.le_refl _) ht); iapply (ctx_lev K dt); iexact HC
    iexact Ha
  iintro ⟨HO, Ha, #Hr', Hpay⟩
  ihave Hp := (rest_bar dt c r hr) $$ Hpay
  rw [wp_ret]
  imodintro
  iapply Hk
  isplitl [Hp]; · iexact Hp
  isplitl [HO]; · iexists _; iexact HO
  isplitl [Ha]; · iexact Ha
  iexact Hr'

end Cert.RingMlp

end
-- ==== Proof.Steps.lean ====
/- Loads and stores of one block, and the second halves of the two kinds of hop. -/
module

public import proofs.«01_k».proof.Proof.Hop
public import Idealize.ShloMosaic.Lib.Pipeline.Value

@[expose] public section

set_option maxRecDepth 16384

noncomputable section

namespace Cert.RingMlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- A vector of a slot's shape, read as a block. -/
abbrev flat (w : Vec F S1x128x128 .f32) : Blk F := shapeCast S128x128 w shapeCasts_S1x128x128_S128x128

theorem keep_eq (v : Blk F) : keep v = v := Idealize.ShloMosaic.shapeCast_self _ _

theorem load_chunk (D : Memref sig .tc .vmem S4096x128 .f32) (o : Fin 2 → Nat) (ho) (c : Dev nD) (v : Blk F)
    {hl : D.view.LoadsAt (chunkRect o ho).toLoadRect} {α : Type} (k : Blk F → Pg F α) (Q : α → sProp 𝕄) :
    holds (chunk D o ho) c v ⊢ iprop((holds (chunk D o ho) c v -∗ run c (k v) Q) -∗ run c (.op (.load D (chunkRect o ho).toLoadRect hl) k) Q) := by
  unfold holds
  have key (f : Buf (Elt F) ((chunk D o ho).view.loc (c : Thread nD τ))) :
      ((chunk D o ho).view.loc (c : Thread nD τ) ↦[(chunk D o ho).view.set]{fullShare} f : sProp 𝕄)
        ⊢ iprop((((chunk D o ho).view.loc (c : Thread nD τ) ↦[(chunk D o ho).view.set]{fullShare} f) -∗ run c (k ((chunk D o ho).view.read (Elt F) f)) Q)
          -∗ run c (.op (.load D (chunkRect o ho).toLoadRect hl) k) Q) :=
    wp_load_rect 𝒱₀ (c : Thread nD τ) none Set.univ (m := D) (r := chunkRect o ho) (Finset.Subset.refl _)
  iintro ⟨%f, %hf, H⟩ Hk
  iapply (key f) $$ H
  iintro H
  rw [hf]
  iapply Hk
  iexists f
  isplitr; · ipureintro; exact hf
  iexact H

theorem store_chunk (D : Memref sig .tc .vmem S4096x128 .f32) (o : Fin 2 → Nat) (ho) (c : Dev nD) (u w : Blk F)
    {hx : (D.access (chunkRect o ho)).Stores Finset.univ} {hm} {α : Type} (k : PUnit → Pg F α) (Q : α → sProp 𝕄) :
    holds (chunk D o ho) c u ⊢ iprop((holds (chunk D o ho) c w -∗ run c (k ⟨⟩) Q)
      -∗ run c (.op (.store D (chunkRect o ho) w Finset.univ hx hm) k) Q) := by
  unfold holds
  have key (f : Buf (Elt F) ((chunk D o ho).view.loc (c : Thread nD τ))) :
      ((chunk D o ho).view.loc (c : Thread nD τ) ↦[(chunk D o ho).view.set]{fullShare} f : sProp 𝕄)
        ⊢ iprop((((chunk D o ho).view.loc (c : Thread nD τ) ↦[(chunk D o ho).view.set]{fullShare} ((chunk D o ho).view.write (Elt F) f w Finset.univ)) -∗ run c (k ⟨⟩) Q)
          -∗ run c (.op (.store D (chunkRect o ho) w Finset.univ hx hm) k) Q) :=
    wp_store 𝒱₀ (c : Thread nD τ) none Set.univ (m := D) (r := chunkRect o ho) (w := w) (Mk := Finset.univ) (View.setOn_subset_set _ _)
  iintro ⟨%f, %hf, H⟩ Hk
  iapply (key f) $$ H
  iintro H
  iapply Hk
  iexists ((chunk D o ho).view.write (Elt F) f w Finset.univ)
  isplitr; · ipureintro; exact View.read_write_univ (v := (chunk D o ho).view) f w
  iexact H

theorem load_slot (h : Fin 31) (c : Dev nD) (v : Blk F)
    {hl : cB.view.LoadsAt (slotRect h).toLoadRect} {α : Type} (k : Vec F S1x128x128 .f32 → Pg F α) (Q : α → sProp 𝕄) :
    holds (slot cB h) c v ⊢ iprop((∀ w : Vec F S1x128x128 .f32, ⌜flat w = v⌝ -∗ holds (slot cB h) c v -∗ run c (k w) Q)
      -∗ run c (.op (.load cB (slotRect h).toLoadRect hl) k) Q) := by
  unfold holds
  have hset : (cB.access (slotRect h)).set ⊆ (slot cB h).view.set := by
    rw [show (slot cB h).view.set = (cB.access (slotRect h)).set from View.set_reshape _ _]
  have key (f : Buf (Elt F) ((slot cB h).view.loc (c : Thread nD τ))) :
      ((slot cB h).view.loc (c : Thread nD τ) ↦[(slot cB h).view.set]{fullShare} f : sProp 𝕄)
        ⊢ iprop((((slot cB h).view.loc (c : Thread nD τ) ↦[(slot cB h).view.set]{fullShare} f) -∗ run c (k ((cB.access (slotRect h)).read (Elt F) f)) Q)
          -∗ run c (.op (.load cB (slotRect h).toLoadRect hl) k) Q) :=
    wp_load_rect 𝒱₀ (c : Thread nD τ) none Set.univ (m := cB) (r := slotRect h) hset
  iintro ⟨%f, %hf, H⟩ Hk
  iapply (key f) $$ H
  iintro H
  iapply Hk $$ %_ [] [H]
  · ipureintro; exact hf
  iexists f
  isplitr; · ipureintro; exact hf
  iexact H

theorem load_x (c : Dev nD) (v : Blk F) {hb}
    {hl : xB.view.LoadsAt (Rect.unit (s := S128x128) ![0, 0] S128x128.size hb).toLoadRect} {α : Type} (k : Blk F → Pg F α) (Q : α → sProp 𝕄) :
    holds xB c v ⊢ iprop((holds xB c v -∗ run c (k v) Q)
      -∗ run c (.op (.load xB (Rect.unit (s := S128x128) ![0, 0] S128x128.size hb).toLoadRect hl) k) Q) := by
  unfold holds run
  iintro ⟨%f, %hf, H⟩ Hk
  iapply (wp_load 𝒱₀ (c : Thread nD τ) none Set.univ (m := xB) (S := xB.view.set) (View.setOn_subset_set _ _)) $$ H
  iintro H
  rw [show View.readAt (Elt F) xB.view (Rect.unit (s := S128x128) ![0, 0] S128x128.size hb).toLoadRect f = v from
    (Memref.readAt_unit_zero (Elt F) cc0_stg0_0 (funext fun a => by fin_cases a <;> rfl) _ f).trans hf]
  iapply Hk
  iexists f
  isplitr; · ipureintro; exact hf
  iexact H

/-- The chunk at offset `o` of a buffer is its part `j` where `o` is `j`'s offset. -/
theorem chunk_part (D : Memref sig .tc .vmem S4096x128 .f32) {o : Fin 2 → Nat} (ho) {j : Dev nD} (h : o = chunkOff j) : chunk D o ho = part D j := by
  subst h; rfl

theorem gatherStore_wp (D : Memref sig .tc .vmem S4096x128 .f32) (g : FVec F S128x128 .f32 → FVec F S128x128 .f32) (hg : ∀ v, g v = v)
    (o : Fin 2 → Nat) (ho) (h : Fin 31) (c : Dev nD) (u v : Blk F) (Q : PUnit → sProp 𝕄) :
    iprop(holds (slot cB h) c v ∗ holds (chunk D o ho) c u)
      ⊢ iprop(((holds (slot cB h) c v ∗ holds (chunk D o ho) c v) -∗ Q ⟨⟩) -∗ run c (gatherStore ends D g o ho h) Q) := by
  unfold gatherStore
  simp only [Prog.lift, Prog.bind_op, Prog.bind_ret]
  iintro ⟨Hs, Hd⟩ Hk
  iapply (load_slot h c v) $$ Hs
  iintro %w %hw Hs
  iapply (load_chunk D o ho c u) $$ Hd
  iintro Hd
  rw [hg]
  iapply (store_chunk D o ho c u (flat w)) $$ Hd
  iintro Hd
  rw [hw]
  unfold run; rw [wp_ret]
  imodintro
  iapply Hk
  isplitl [Hs]; · iexact Hs
  iexact Hd

theorem reduceStore_wp (D : Memref sig .tc .vmem S4096x128 .f32)
    (o : Fin 2 → Nat) (ho) (h : Fin 31) (c : Dev nD) (u v : Blk F) (Q : PUnit → sProp 𝕄) :
    iprop(holds (slot cB h) c v ∗ holds (chunk D o ho) c u)
      ⊢ iprop(((holds (slot cB h) c v ∗ holds (chunk D o ho) c (addf u v : FVec F S128x128 .f32)) -∗ Q ⟨⟩) -∗ run c (reduceStore ends D o ho h) Q) := by
  unfold reduceStore
  simp only [Prog.lift, Prog.bind_op, Prog.bind_ret]
  iintro ⟨Hs, Hd⟩ Hk
  iapply (load_chunk D o ho c u) $$ Hd
  iintro Hd
  iapply (load_slot h c v) $$ Hs
  iintro %w %hw Hs
  iapply (load_chunk D o ho c u) $$ Hd
  iintro Hd
  rw [Idealize.ShloMosaic.shapeCast_self]
  iapply (store_chunk D o ho c u (addf u (flat w) : FVec F S128x128 .f32)) $$ Hd
  iintro Hd
  rw [hw]
  unfold run; rw [wp_ret]
  imodintro
  iapply Hk
  isplitl [Hs]; · iexact Hs
  iexact Hd

end Cert.RingMlp

end
-- ==== Proof.Loops.lean ====
/- The thirty-one hops of a gather, and of a reduction. -/
module

public import proofs.«01_k».proof.Proof.Steps

@[expose] public section

set_option maxRecDepth 16384

noncomputable section

namespace Cert.RingMlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Running a list of hops -/

theorem runList_from (c : Dev nD) (f : Fin 31 → Pg F PUnit) (I : ℕ → sProp 𝕄)
    (step : ∀ h : Fin 31, I h.val ⊢ run c (f h) (fun _ => I (h.val + 1))) :
    ∀ (l : List (Fin 31)) (k : ℕ), l.map Fin.val = List.range' k l.length → I k ⊢ run c (runList f l) (fun _ => I (k + l.length))
  | [], k, _ => by
      show I k ⊢ run c (Prog.ret PUnit.unit : Pg F PUnit) (fun _ => I k)
      unfold run; rw [wp_ret]
      iintro H; imodintro; iexact H
  | h :: t, k, hl => by
      rw [List.map_cons, List.length_cons, List.range'_succ, List.cons.injEq] at hl
      obtain ⟨rfl, ht⟩ := hl
      show I h.val ⊢ run c (f h >>= fun _ => runList f t) _
      unfold run; rw [wp_bind]
      refine (step h).trans (wp_mono _ _ _ fun _ => ?_)
      have := runList_from c f I step t (h.val + 1) ht
      rw [show h.val + (h :: t).length = h.val + 1 + t.length by rw [List.length_cons]; omega]
      exact this

theorem runList_hops (c : Dev nD) (f : Fin 31 → Pg F PUnit) (I : ℕ → sProp 𝕄)
    (step : ∀ h : Fin 31, I h.val ⊢ run c (f h) (fun _ => I (h.val + 1))) : I 0 ⊢ run c (runList f hops) (fun _ => I 31) :=
  runList_from c f I step hops 0 (by decide)

/-- A hop takes what is at hand and its own share, and leaves what is at hand next and what it is done with. -/
theorem runList_shares (c : Dev nD) (f : Fin 31 → Pg F PUnit) (cur : ℕ → sProp 𝕄) (todo done : Fin 31 → sProp 𝕄)
    (step : ∀ h : Fin 31, iprop(cur h.val ∗ todo h) ⊢ run c (f h) (fun _ => iprop(cur (h.val + 1) ∗ done h))) :
    iprop(cur 0 ∗ bigSep Finset.univ todo) ⊢ run c (runList f hops) (fun _ => iprop(cur 31 ∗ bigSep Finset.univ done)) := by
  have h0 : bigSep Finset.univ todo = bigSep Finset.univ (fun h : Fin 31 => if h.val < 0 then done h else todo h) :=
    bigSep_congr fun h _ => (if_neg (Nat.not_lt_zero _)).symm
  have h31 : bigSep Finset.univ done = bigSep Finset.univ (fun h : Fin 31 => if h.val < 31 then done h else todo h) :=
    bigSep_congr fun h _ => (if_pos h.isLt).symm
  rw [h0, h31]
  refine runList_hops c f (fun k => iprop(cur k ∗ bigSep Finset.univ (fun h : Fin 31 => if h.val < k then done h else todo h))) fun h => ?_
  have e1 : (if h.val < h.val then done h else todo h) = todo h := if_neg (Nat.lt_irrefl _)
  have e2 : (if h.val < h.val + 1 then done h else todo h) = done h := if_pos (Nat.lt_succ_self _)
  have up := bigSep_univ_update (Φ := fun j : Fin 31 => if j.val < h.val then done j else todo j)
    (Ψ := fun j : Fin 31 => if j.val < h.val + 1 then done j else todo j) h fun j hj => by
      have : j.val ≠ h.val := fun e => hj (Fin.ext e)
      by_cases hlt : j.val < h.val
      · rw [if_pos hlt, if_pos (by omega)]
      · rw [if_neg hlt, if_neg (by omega)]
  rw [e1, e2] at up
  iintro ⟨Hc, Hb⟩
  ihave Hb := up $$ Hb
  icases Hb with ⟨Ht, Hk⟩
  ihave Hw := (step h) $$ [Hc Ht]
  · isplitl [Hc]; · iexact Hc
    iexact Ht
  iapply (wp_wand _ _ _) $$ Hw
  iintro %_ ⟨Hc, Hd⟩
  isplitl [Hc]; · iexact Hc
  iapply Hk; iexact Hd

/-! ## A family over the ring, from one device on -/

omit [FloatOps F] in
theorem head31 (G : ℕ → sProp 𝕄) : bigSep (Finset.univ : Finset (Fin 32)) (fun i => G i.val)
    = iprop(G 0 ∗ bigSep (Finset.univ : Finset (Fin 31)) (fun h => G (h.val + 1))) := by
  rw [Fin.univ_succ, Finset.cons_eq_insert, bigSep_insert (by simp), bigSep_map]; rfl
omit [FloatOps F] in
theorem last31 (G : ℕ → sProp 𝕄) : bigSep (Finset.univ : Finset (Fin 32)) (fun i => G i.val)
    = iprop(G 31 ∗ bigSep (Finset.univ : Finset (Fin 31)) (fun h => G h.val)) := by
  rw [Fin.univ_castSuccEmb, Finset.cons_eq_insert, bigSep_insert (fun h => ?_), bigSep_map]
  · rfl
  obtain ⟨x, _, hx⟩ := Finset.mem_map.mp h
  have h1 : x.val = 31 := congrArg Fin.val hx
  have := x.isLt
  omega

/-- The devices in the order one meets them going back from `b`. -/
def fromDev (b : Dev nD) : Fin 32 ≃ Dev nD :=
  ⟨fun k => back b k.val, fun j => ⟨dist b j, dist_lt b j⟩, fun k => Fin.ext (dist_back b k.val k.isLt), fun j => back_dist b j⟩

omit [FloatOps F] in
theorem around_head (b : Dev nD) (G : Dev nD → sProp 𝕄) : bigSep Finset.univ G
    = iprop(G b ∗ bigSep (Finset.univ : Finset (Fin 31)) (fun h => G (back b (h.val + 1)))) := by
  rw [bigSep_univ_equiv (fromDev b)]
  refine (head31 fun k => G (back b k)).trans ?_
  rw [back_zero]
omit [FloatOps F] in
theorem around_last (b : Dev nD) (G : Dev nD → sProp 𝕄) : bigSep Finset.univ G
    = iprop(G (nxt b) ∗ bigSep (Finset.univ : Finset (Fin 31)) (fun h => G (back b h.val))) := by
  rw [bigSep_univ_equiv (fromDev b)]
  refine (last31 fun k => G (back b k)).trans ?_
  rw [back_last]

/-! ## The gather -/

/-- A number as a hop. -/
def hopN (k : ℕ) : Fin 31 := ⟨k % 31, Nat.mod_lt _ (by decide)⟩
theorem hopN_val (h : Fin 31) : hopN h.val = h := Fin.ext (Nat.mod_eq_of_lt h.isLt)
theorem hopN_lt {k : ℕ} (hk : k < 31) : hopN k = ⟨k, hk⟩ := Fin.ext (Nat.mod_eq_of_lt hk)

/-- What a gather is about to send at hop `k`: where, and what. -/
def curM (src : Memref sig .tc .vmem S128x128 .f32) : ℕ → Memref sig .tc .vmem S128x128 .f32
  | 0 => src
  | k + 1 => slot cB (hopN k)
def curV (dt : Plan F) (r : ℕ) (c : Dev nD) (v0 : Blk F) : ℕ → Blk F
  | 0 => v0
  | k + 1 => dt r (hopN k) c

theorem fwd_cur (src : Memref sig .tc .vmem S128x128 .f32) : ∀ h : Fin 31, fwd ends src h = curM src h.val
  | ⟨0, _⟩ => rfl
  | ⟨k + 1, hk⟩ => by show slot cB ⟨k, _⟩ = slot cB (hopN k); rw [hopN_lt (Nat.lt_of_succ_lt hk)]

theorem curM_succ (src : Memref sig .tc .vmem S128x128 .f32) (h : Fin 31) : curM src (h.val + 1) = slot cB h := by
  show slot cB (hopN h.val) = _; rw [hopN_val]
theorem curV_succ (dt : Plan F) (r : ℕ) (c : Dev nD) (v0 : Blk F) (h : Fin 31) : curV dt r c v0 (h.val + 1) = dt r h c := by
  show dt r (hopN h.val) c = _; rw [hopN_val]

theorem fwd_N (src : Memref sig .tc .vmem S128x128 .f32) (hN : src.view.dmaCredit = N) : ∀ h : Fin 31, (fwd ends src h).view.dmaCredit = N
  | ⟨0, _⟩ => hN
  | ⟨_ + 1, _⟩ => rfl

theorem curV_sent (dt : Plan F) (r : ℕ) (c : Dev nD) (v0 : Blk F) (h0 : v0 = dt r 0 (nxt c))
    (hf : ∀ (k : ℕ) (hk : k + 1 < 31), dt r ⟨k + 1, hk⟩ (nxt c) = dt r ⟨k, Nat.lt_of_succ_lt hk⟩ c) :
    ∀ h : Fin 31, curV dt r c v0 h.val = dt r h (nxt c)
  | ⟨0, _⟩ => h0
  | ⟨k + 1, hk⟩ => by rw [hf k hk]; show dt r (hopN k) c = _; rw [hopN_lt (Nat.lt_of_succ_lt hk)]

/-- What a gather has at hand at hop `k`, a hop's share of the rest, and what it leaves. -/
def gCur (K : Dev nD × Own → ℕ) (dt : Plan F) (c : Dev nD) (r : ℕ) (src : Memref sig .tc .vmem S128x128 .f32) (v0 : Blk F) (k : ℕ) : sProp 𝕄 :=
  iprop(ctx K dt ∗ holds (curM src k) c (curV dt r c v0 k) ∗ debt c (32 * r + 1 + k) ∗ reached ER (barCell (back c k)) (r + 1))
def gTodo (c : Dev nD) (r : ℕ) (D : Memref sig .tc .vmem S4096x128 .f32) (b : Dev nD) (h : Fin 31) : sProp 𝕄 :=
  iprop(slotIn (nxt c) r h ∗ hopIn c r h ∗ ∃ u : Blk F, holds (part D (back b (h.val + 1))) c u)
def gDone (dt : Plan F) (c : Dev nD) (r : ℕ) (D : Memref sig .tc .vmem S4096x128 .f32) (b : Dev nD)
    (src : Memref sig .tc .vmem S128x128 .f32) (v0 : Blk F) (h : Fin 31) : sProp 𝕄 :=
  iprop(holds (curM src h.val) c (curV dt r c v0 h.val) ∗ hopOut c (r + 1) h ∗ reached ER (barCell (back c (h.val + 1))) (r + 1)
    ∗ holds (part D (back b (h.val + 1))) c (dt r h c))

theorem gather_hops (K : Dev nD × Own → ℕ) (dt : Plan F) (c n : Dev nD) (hn : n = nxt c) (r : ℕ) (hr : r < 7)
    (src : Memref sig .tc .vmem S128x128 .f32) (hs : src.view.WordExact) (hsrc : ∀ h, srcOf r h c = fwd ends src h) (hN : src.view.dmaCredit = N)
    (v0 : Blk F) (hv : ∀ h : Fin 31, curV dt r c v0 h.val = dt r h (nxt c))
    (D : Memref sig .tc .vmem S4096x128 .f32) (b : Dev nD) (g : FVec F S128x128 .f32 → FVec F S128x128 .f32) (hg : ∀ v, g v = v)
    (o : Fin 31 → Fin 2 → Nat) (ho) (hoff : ∀ h : Fin 31, o h = chunkOff (back b (h.val + 1))) :
    iprop(gCur K dt c r src v0 0 ∗ bigSep Finset.univ (gTodo c r D b))
      ⊢ run c (runList (gatherHop ends n src hs D g o ho) hops)
          (fun _ => iprop(gCur K dt c r src v0 31 ∗ bigSep Finset.univ (gDone dt c r D b src v0))) := by
  refine runList_shares c _ (gCur K dt c r src v0) _ _ fun h => ?_
  unfold gatherHop run
  rw [wp_bind]
  unfold gCur gTodo gDone
  rw [curM_succ, curV_succ]
  iintro ⟨⟨#HC, Hsrc, HD, #HrB⟩, Hsl, Hin, %u, Hd⟩
  rw [← fwd_cur, hv h]
  iapply (xfer_wp K dt c n hn r hr h (fwd ends src h) (fwd_exact ends src hs h) (hsrc h) (fwd_N src hN h)
    (fun _ => run c (gatherStore ends D g (o h) (ho h) h) _)) $$ [Hsrc HD Hsl Hin]
  · isplitr; · iexact HC
    isplitl [Hsrc]; · iexact Hsrc
    isplitl [Hsl]; · iexact Hsl
    isplitl [HD]; · iexact HD
    isplitl [Hin]; · iexact Hin
    iexact HrB
  iintro ⟨Hsrc, Hl, HD, Hout, #HrB'⟩
  rw [← chunk_part D (ho h) (hoff h)]
  iapply (gatherStore_wp D g hg (o h) (ho h) h c u (dt r h c)) $$ [Hl Hd]
  · isplitl [Hl]; · iexact Hl
    iexact Hd
  iintro ⟨Hl, Hd⟩
  isplitl [Hl HD]
  · isplitr; · iexact HC
    isplitl [Hl]; · iexact Hl
    isplitl [HD]; · iexact HD
    iexact HrB'
  isplitl [Hsrc]; · iexact Hsrc
  isplitl [Hout]; · iexact Hout
  isplitr; · iexact HrB'
  iexact Hd

/-! ## The reduction -/

def rCur (K : Dev nD × Own → ℕ) (dt : Plan F) (c : Dev nD) (r : ℕ) (S : ℕ → Blk F) (k : ℕ) : sProp 𝕄 :=
  iprop(ctx K dt ∗ holds (part pB (back c k)) c (S k) ∗ debt c (32 * r + 1 + k) ∗ reached ER (barCell (back c k)) (r + 1))
def rTodo (c : Dev nD) (r : ℕ) (P : Dev nD → Blk F) (h : Fin 31) : sProp 𝕄 :=
  iprop(slotIn (nxt c) r h ∗ hopIn c r h ∗ holds (part pB (back c (h.val + 1))) c (P (back c (h.val + 1))))
def rDone (dt : Plan F) (c : Dev nD) (r : ℕ) (S : ℕ → Blk F) (h : Fin 31) : sProp 𝕄 :=
  iprop(holds (part pB (back c h.val)) c (S h.val) ∗ hopOut c (r + 1) h ∗ reached ER (barCell (back c (h.val + 1))) (r + 1)
    ∗ holds (slot cB h) c (dt r h c))

theorem reduce_hops (K : Dev nD × Own → ℕ) (dt : Plan F) (c n : Dev nD) (hn : n = nxt c) (r : ℕ) (hr : r < 7)
    (hsrc : ∀ h, srcOf r h c = part pB (back c h.val))
    (P : Dev nD → Blk F) (S : ℕ → Blk F) (hS : ∀ h : Fin 31, S h.val = dt r h (nxt c))
    (hA : ∀ h : Fin 31, (addf (P (back c (h.val + 1))) (dt r h c) : FVec F S128x128 .f32) = S (h.val + 1))
    (o o' : Fin 31 → Fin 2 → Nat) (ho ho') (hoff : ∀ h : Fin 31, o h = chunkOff (back c h.val))
    (hoff' : ∀ h : Fin 31, o' h = chunkOff (back c (h.val + 1))) :
    iprop(rCur K dt c r S 0 ∗ bigSep Finset.univ (rTodo c r P))
      ⊢ run c (runList (reduceHop ends n pB o o' ho ho') hops)
          (fun _ => iprop(rCur K dt c r S 31 ∗ bigSep Finset.univ (rDone dt c r S))) := by
  refine runList_shares c _ (rCur K dt c r S) _ _ fun h => ?_
  unfold reduceHop run
  rw [wp_bind]
  unfold rCur rTodo rDone
  iintro ⟨⟨#HC, Hsrc, HD, #HrB⟩, Hsl, Hin, Hd⟩
  rw [hS h, ← chunk_part pB (ho h) (hoff h)]
  iapply (xfer_wp K dt c n hn r hr h (chunk pB (o h) (ho h)) (chunk_exact pB (o h) (ho h)) ((hsrc h).trans (chunk_part pB (ho h) (hoff h)).symm) rfl
    (fun _ => run c (reduceStore ends pB (o' h) (ho' h) h) _)) $$ [Hsrc HD Hsl Hin]
  · isplitr; · iexact HC
    isplitl [Hsrc]; · iexact Hsrc
    isplitl [Hsl]; · iexact Hsl
    isplitl [HD]; · iexact HD
    isplitl [Hin]; · iexact Hin
    iexact HrB
  iintro ⟨Hsrc, Hl, HD, Hout, #HrB'⟩
  rw [← hA h, ← chunk_part pB (ho' h) (hoff' h)]
  iapply (reduceStore_wp pB (o' h) (ho' h) h c (P (back c (h.val + 1))) (dt r h c)) $$ [Hl Hd]
  · isplitl [Hl]; · iexact Hl
    iexact Hd
  iintro ⟨Hl, Hd⟩
  isplitl [Hd HD]
  · isplitr; · iexact HC
    isplitl [Hd]; · iexact Hd
    isplitl [HD]; · iexact HD
    iexact HrB'
  isplitl [Hsrc]; · iexact Hsrc
  isplitl [Hout]; · iexact Hout
  isplitr; · iexact HrB'
  iexact Hl

end Cert.RingMlp

end
-- ==== Proof.Memory.lean ====
/- Whole buffers and their thirty-two parts; the landing slots; one tile of the two products, and the four. -/
module

public import proofs.«01_k».proof.Proof.Steps
public import Idealize.ShloMosaic.Lib.Ring

@[expose] public section

set_option maxRecDepth 16384

noncomputable section

namespace Cert.RingMlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- The memory of a view of any shape on device `c`, read as `v`. -/
def keeps {s : Shape} (M : Memref sig .tc .vmem s .f32) (c : Dev nD) (v : s.Idx → Elt F .f32) : sProp 𝕄 :=
  iprop(∃ f : Buf (Elt F) (M.view.loc (c : Thread nD τ)), ⌜M.view.read (Elt F) f = v⌝ ∗ (M.view.loc (c : Thread nD τ) ↦[M.view.set]{fullShare} f))

/-! ## Rows -/

/-- The index at row `i` and column `j`. -/
def at2 {n m : ℕ} (i : ℕ) (hi : i < n) (j : ℕ) (hj : j < m) : (⟨2, ![n, m]⟩ : Shape).Idx
  | ⟨0, _⟩ => ⟨i, hi⟩
  | ⟨1, _⟩ => ⟨j, hj⟩

theorem ext2 {n m : ℕ} {x y : (⟨2, ![n, m]⟩ : Shape).Idx} (h0 : (x 0).val = (y 0).val) (h1 : (x 1).val = (y 1).val) : x = y :=
  funext fun a => match a with
    | ⟨0, _⟩ => Fin.ext h0
    | ⟨1, _⟩ => Fin.ext h1

/-- The part a row is in, and its place there; the tile, and its place there. -/
def partOf (y : S4096x128.Idx) : Dev nD := ⟨(y 0).val / 128, by have : (y 0).val < 4096 := (y 0).isLt; show _ < 32; omega⟩
def inPart (y : S4096x128.Idx) : S128x128.Idx := at2 ((y 0).val % 128) (Nat.mod_lt _ (by decide)) (y 1).val (y 1).isLt
def tileOf (y : S4096x128.Idx) : Fin 4 := ⟨(y 0).val / 1024, by have : (y 0).val < 4096 := (y 0).isLt; omega⟩
def inTile (y : S4096x128.Idx) : S1024x128.Idx := at2 ((y 0).val % 1024) (Nat.mod_lt _ (by decide)) (y 1).val (y 1).isLt

abbrev partRect (j : Dev nD) : Rect S4096x128 := chunkRect (chunkOff j) (chunkOff_inb j)

theorem part_row (j : Dev nD) (x : S128x128.Idx) : (((partRect j).emb x) 0).val = 128 * j.val + (x 0).val := by
  rw [Rect.emb_apply]; show 128 * j.val + 1 * (x 0).val = _; omega
theorem part_col (j : Dev nD) (x : S128x128.Idx) : (((partRect j).emb x) 1).val = (x 1).val := by
  rw [Rect.emb_apply]; show 0 + 1 * (x 1).val = _; omega
theorem tile_row (i : Fin 4) (x : S1024x128.Idx) : (((tileRect i).emb x) 0).val = 1024 * i.val + (x 0).val := by
  rw [Rect.emb_apply]; show 1024 * i.val + 1 * (x 0).val = _; omega
theorem tile_col (i : Fin 4) (x : S1024x128.Idx) : (((tileRect i).emb x) 1).val = (x 1).val := by
  rw [Rect.emb_apply]; show 0 + 1 * (x 1).val = _; omega

theorem part_at (y : S4096x128.Idx) : (partRect (partOf y)).emb (inPart y) = y :=
  ext2 (by rw [part_row]; show 128 * ((y 0).val / 128) + (y 0).val % 128 = _; omega) (by rw [part_col]; rfl)
theorem partOf_emb (j : Dev nD) (x : S128x128.Idx) : partOf ((partRect j).emb x) = j :=
  Fin.ext (by show (((partRect j).emb x) 0).val / 128 = _; rw [part_row]; have : (x 0).val < 128 := (x 0).isLt; omega)
theorem inPart_emb (j : Dev nD) (x : S128x128.Idx) : inPart ((partRect j).emb x) = x :=
  ext2 (by show (((partRect j).emb x) 0).val % 128 = _; rw [part_row]; have : (x 0).val < 128 := (x 0).isLt; omega) (part_col j x)
theorem tile_at (y : S4096x128.Idx) : (tileRect (tileOf y)).emb (inTile y) = y :=
  ext2 (by rw [tile_row]; show 1024 * ((y 0).val / 1024) + (y 0).val % 1024 = _; omega) (by rw [tile_col]; rfl)
theorem tileOf_emb (i : Fin 4) (x : S1024x128.Idx) : tileOf ((tileRect i).emb x) = i :=
  Fin.ext (by show (((tileRect i).emb x) 0).val / 1024 = _; rw [tile_row]; have : (x 0).val < 1024 := (x 0).isLt; omega)

/-- Thirty-two blocks, one under another, and part `j` of a buffer. -/
def glue (B : Dev nD → Blk F) : S4096x128.Idx → Elt F .f32 := fun y => B (partOf y) (inPart y)
def cut (g : S4096x128.Idx → Elt F .f32) (j : Dev nD) : Blk F := fun x => g ((partRect j).emb x)

omit [FloatOps F] in
theorem cut_glue (B : Dev nD → Blk F) (j : Dev nD) : cut (glue B) j = B j :=
  funext fun x => by unfold cut glue; rw [partOf_emb, inPart_emb]
omit [FloatOps F] in
theorem glue_cut (g : S4096x128.Idx → Elt F .f32) : glue (cut g) = g :=
  funext fun y => congrArg g (part_at y)

/-! ## A buffer and its parts -/

/-- The elements of part `j`. -/
def partSet (D : Memref sig .tc .vmem S4096x128 .f32) (j : Dev nD) : Finset D.view.ty.Idx := (partRect j).set.map D.view.emb

theorem part_set (D : Memref sig .tc .vmem S4096x128 .f32) (j : Dev nD) : (part D j).view.set = partSet D j := View.set_slice _ _

theorem part_disjoint (D : Memref sig .tc .vmem S4096x128 .f32) (j j' : Dev nD) (h : j ≠ j') : Disjoint (partSet D j) (partSet D j') := by
  unfold partSet
  rw [Finset.disjoint_map]
  have : j.val ≠ j'.val := fun e => h (Fin.ext e)
  exact Rect.unit_disjoint (0 : Fin 2) (by show 128 * j.val + 128 ≤ 128 * j'.val ∨ 128 * j'.val + 128 ≤ 128 * j.val; omega)

theorem part_mem (y : S4096x128.Idx) : y ∈ (partRect (partOf y)).set := by
  have h : (partRect (partOf y)).emb (inPart y) ∈ Finset.univ.map (partRect (partOf y)).emb := Finset.mem_map_of_mem _ (Finset.mem_univ (inPart y))
  rw [part_at, Rect.map_emb_univ] at h
  exact h

theorem part_cover (D : Memref sig .tc .vmem S4096x128 .f32) : D.view.set = (Finset.univ : Finset (Dev nD)).biUnion (partSet D) := by
  ext i
  rw [Finset.mem_biUnion]
  constructor
  · intro h
    obtain ⟨y, -, rfl⟩ := Finset.mem_map.mp h
    exact ⟨partOf y, Finset.mem_univ _, Finset.mem_map.mpr ⟨y, part_mem y, rfl⟩⟩
  · rintro ⟨j, -, h⟩
    obtain ⟨y, -, rfl⟩ := Finset.mem_map.mp h
    exact Finset.mem_map_of_mem _ (Finset.mem_univ y)

omit [FloatOps F] in
/-- A view held at contents that read as `v` is held at any other contents that do. -/
theorem holds_at (V : Memref sig .tc .vmem S128x128 .f32) (c : Dev nD) (v : Blk F) (g : Buf (Elt F) (V.view.loc (c : Thread nD τ)))
    (hg : V.view.read (Elt F) g = v) : holds V c v ⊢ (V.view.loc (c : Thread nD τ) ↦[V.view.set]{fullShare} g : sProp 𝕄) := by
  unfold holds
  iintro ⟨%f, %hf, H⟩
  have e : (V.view.loc (c : Thread nD τ) ↦[V.view.set]{fullShare} f : sProp 𝕄) = V.view.loc (c : Thread nD τ) ↦[V.view.set]{fullShare} g :=
    pointsTo_congr fun i hi => by
      obtain ⟨x, -, rfl⟩ := Finset.mem_map.mp hi
      have := congrFun (hf.trans hg.symm) x
      unfold View.read at this
      exact (cast_inj _).mp this
  rw [← e]; iexact H

omit [FloatOps F] in
theorem parts_eq (D : Memref sig .tc .vmem S4096x128 .f32) (c : Dev nD) (f : D.view.ty.Contents (Elt F)) :
    (D.view.loc (c : Thread nD τ) ↦[D.view.set]{fullShare} f : sProp 𝕄)
      = bigSep Finset.univ fun j => D.view.loc (c : Thread nD τ) ↦[partSet D j]{fullShare} f := by
  rw [part_cover D]
  exact pointsTo_biUnion Finset.univ _ fun j _ j' _ h => part_disjoint D j j' h

omit [FloatOps F] in
theorem holds_part (D : Memref sig .tc .vmem S4096x128 .f32) (c : Dev nD) (g : S4096x128.Idx → Elt F .f32) (f : D.view.ty.Contents (Elt F))
    (hf : D.view.read (Elt F) f = g) (j : Dev nD) :
    (D.view.loc (c : Thread nD τ) ↦[partSet D j]{fullShare} f : sProp 𝕄) ⊢ holds (part D j) c (cut g j) := by
  rw [← part_set]
  unfold holds
  iintro H
  iexists f
  isplitr
  · ipureintro; rw [← hf]; rfl
  iexact H

omit [FloatOps F] in
theorem part_holds (D : Memref sig .tc .vmem S4096x128 .f32) (c : Dev nD) (g : S4096x128.Idx → Elt F .f32) (f : D.view.ty.Contents (Elt F))
    (hf : D.view.read (Elt F) f = g) (j : Dev nD) :
    holds (part D j) c (cut g j) ⊢ (D.view.loc (c : Thread nD τ) ↦[partSet D j]{fullShare} f : sProp 𝕄) := by
  rw [← part_set]
  exact holds_at (part D j) c (cut g j) f (by rw [← hf]; rfl)

omit [FloatOps F] in
theorem keeps_split (D : Memref sig .tc .vmem S4096x128 .f32) (c : Dev nD) (g : S4096x128.Idx → Elt F .f32) :
    keeps D c g ⊢ bigSep Finset.univ fun j => holds (part D j) c (cut g j) := by
  unfold keeps
  iintro ⟨%f, %hf, H⟩
  have h2 : (bigSep Finset.univ fun j => (D.view.loc (c : Thread nD τ) ↦[partSet D j]{fullShare} f : sProp 𝕄))
      ⊢ bigSep Finset.univ fun j => holds (part D j) c (cut g j) := bigSep_mono fun j _ => holds_part D c g f hf j
  iapply h2
  rw [← parts_eq]; iexact H

omit [FloatOps F] in
theorem keeps_join (D : Memref sig .tc .vmem S4096x128 .f32) (f₀ : D.view.ty.Contents (Elt F)) (c : Dev nD) (B : Dev nD → Blk F) :
    (bigSep Finset.univ fun j => holds (part D j) c (B j)) ⊢ keeps D c (glue B) := by
  have hr : D.view.read (Elt F) (D.view.write (Elt F) f₀ (glue B) Finset.univ) = glue B := View.read_write_univ (v := D.view) f₀ (glue B)
  have h1 : (bigSep Finset.univ fun j => holds (part D j) c (B j))
      ⊢ (bigSep Finset.univ fun j => (D.view.loc (c : Thread nD τ) ↦[partSet D j]{fullShare} (D.view.write (Elt F) f₀ (glue B) Finset.univ) : sProp 𝕄)) :=
    bigSep_mono fun j _ => (cut_glue B j) ▸ part_holds D c (glue B) _ hr j
  refine h1.trans ?_
  rw [← parts_eq]
  unfold keeps
  iintro H
  iexists _
  isplitr; · ipureintro; exact hr
  iexact H

/-! ## The slots -/

/-- The thirty-one slots of device `c`, at anything. -/
def slots (c : Dev nD) : sProp 𝕄 := bigSep (Finset.univ : Finset (Fin 31)) fun h => iprop(∃ v : Blk F, holds (slot cB h) c v)

/-- The elements of slot `h` in the buffer of the slots. -/
abbrev slotSet (h : Fin 31) : Finset S31x128x128.Idx := (slotRect h).set

theorem slot_set (h : Fin 31) : (slot cB h).view.set = slotSet h :=
  (View.set_reshape _ _).trans (View.set_slice_whole _ _)

theorem slot_disjoint (h h' : Fin 31) (hne : h ≠ h') : Disjoint (slotSet h) (slotSet h') := by
  have : h.val ≠ h'.val := fun e => hne (Fin.ext e)
  exact Rect.unit_disjoint (0 : Fin 3) (by show h.val + 1 ≤ h'.val ∨ h'.val + 1 ≤ h.val; omega)

theorem slot_cover : (Finset.univ : Finset (Fin 31)).biUnion slotSet = Finset.univ := by
  ext i
  refine ⟨fun _ => Finset.mem_univ _, fun _ => Finset.mem_biUnion.mpr ⟨⟨(i 0).val, (i 0).isLt⟩, Finset.mem_univ _, Rect.mem_set_unit.mpr fun a => ?_⟩⟩
  match a with
  | ⟨0, _⟩ => exact ⟨Nat.le_refl _, Nat.lt_succ_self _⟩
  | ⟨1, _⟩ => exact ⟨Nat.zero_le _, by show (i 1).val < 0 + 128; have : (i 1).val < 128 := (i 1).isLt; omega⟩
  | ⟨2, _⟩ => exact ⟨Nat.zero_le _, by show (i 2).val < 0 + 128; have : (i 2).val < 128 := (i 2).isLt; omega⟩

omit [FloatOps F] in
theorem slot_holds (c : Dev nD) (f : Buf (Elt F) ((c : Thread nD τ).loc cc0_scratch2)) (h : Fin 31) :
    (((c : Thread nD τ).loc cc0_scratch2) ↦[slotSet h]{fullShare} f : sProp 𝕄) ⊢ iprop(∃ v : Blk F, holds (slot cB h) c v) := by
  unfold holds
  rw [← slot_set]
  iintro H
  iexists ((slot cB h).view.read (Elt F) f)
  iexists f
  isplitr; · ipureintro; rfl
  iexact H

omit [FloatOps F] in
theorem holds_slot (c : Dev nD) (h : Fin 31) :
    iprop(∃ v : Blk F, holds (slot cB h) c v) ⊢ (iprop(∃ f, ((c : Thread nD τ).loc cc0_scratch2) ↦[slotSet h]{fullShare} f) : sProp 𝕄) := by
  unfold holds
  rw [← slot_set]
  iintro ⟨%v, %f, %_, H⟩
  iexists f
  iexact H

omit [FloatOps F] in
theorem slots_split (c : Dev nD) (f : Buf (Elt F) ((c : Thread nD τ).loc cc0_scratch2)) :
    (((c : Thread nD τ).loc cc0_scratch2) ↦{fullShare} f : sProp 𝕄) ⊢ slots c := by
  rw [Ring.pointsTo_blocks (ℓ := (c : Thread nD τ).loc cc0_scratch2) slotSet slot_disjoint slot_cover f]
  exact bigSep_mono fun h _ => slot_holds c f h

omit [FloatOps F] in
theorem slots_join (c : Dev nD) (f₀ : Buf (Elt F) ((c : Thread nD τ).loc cc0_scratch2)) :
    slots c ⊢ (iprop(∃ f, ((c : Thread nD τ).loc cc0_scratch2) ↦{fullShare} f) : sProp 𝕄) :=
  BIBase.Entails.trans (bigSep_mono fun h _ => holds_slot c h)
    (Ring.pointsTo_blocks_join_exists (ℓ := (c : Thread nD τ).loc cc0_scratch2) slotSet slot_disjoint slot_cover f₀)

/-! ## Tiles -/

/-- The two products with the rectifier between, tile by tile. -/
def prod (a : S4096x128.Idx → Elt F .f32) (wi : Vec F S128x256 .f32) (wo : Vec F S256x128 .f32) : S4096x128.Idx → Elt F .f32 :=
  fun y => tileVal (fun x => a ((tileRect (tileOf y)).emb x)) wi wo (inTile y)

theorem load_whole {s : Shape} (M : Memref sig .tc .vmem s .f32) (r : Rect s) (c : Dev nD) (v : s.Idx → Elt F .f32)
    {hl : M.view.LoadsAt r.toLoadRect} {α : Type} (k : (r.shape.Idx → Elt F .f32) → Pg F α) (Q : α → sProp 𝕄) :
    keeps M c v ⊢ iprop((keeps M c v -∗ run c (k (fun x => v (r.emb x))) Q) -∗ run c (.op (.load M r.toLoadRect hl) k) Q) := by
  unfold keeps
  have key (f : Buf (Elt F) (M.view.loc (c : Thread nD τ))) :
      (M.view.loc (c : Thread nD τ) ↦[M.view.set]{fullShare} f : sProp 𝕄)
        ⊢ iprop(((M.view.loc (c : Thread nD τ) ↦[M.view.set]{fullShare} f) -∗ run c (k (fun x => M.view.read (Elt F) f (r.emb x))) Q)
          -∗ run c (.op (.load M r.toLoadRect hl) k) Q) :=
    wp_load_rect 𝒱₀ (c : Thread nD τ) none Set.univ (m := M) (r := r) (View.set_slice_subset _ _)
  iintro ⟨%f, %hf, H⟩ Hk
  iapply (key f) $$ H
  iintro H
  rw [hf]
  iapply Hk
  iexists f
  isplitr; · ipureintro; exact hf
  iexact H

theorem emb_zero2 {n m : ℕ} (hb) (x : (⟨2, ![n, m]⟩ : Shape).Idx) :
    (Rect.unit (s := ⟨2, ![n, m]⟩) ![0, 0] (⟨2, ![n, m]⟩ : Shape).size hb).emb x = x :=
  ext2 (by rw [Rect.emb_apply]; show 0 + 1 * (x 0).val = _; omega) (by rw [Rect.emb_apply]; show 0 + 1 * (x 1).val = _; omega)

theorem load_full {n m : ℕ} (M : Memref sig .tc .vmem ⟨2, ![n, m]⟩ .f32) (c : Dev nD) (v : (⟨2, ![n, m]⟩ : Shape).Idx → Elt F .f32) {hb}
    {hl : M.view.LoadsAt (Rect.unit (s := ⟨2, ![n, m]⟩) ![0, 0] (⟨2, ![n, m]⟩ : Shape).size hb).toLoadRect}
    {α : Type} (k : ((⟨2, ![n, m]⟩ : Shape).Idx → Elt F .f32) → Pg F α) (Q : α → sProp 𝕄) :
    keeps M c v ⊢ iprop((keeps M c v -∗ run c (k v) Q)
      -∗ run c (.op (.load M (Rect.unit (s := ⟨2, ![n, m]⟩) ![0, 0] (⟨2, ![n, m]⟩ : Shape).size hb).toLoadRect hl) k) Q) := by
  have h := load_whole M (Rect.unit (s := ⟨2, ![n, m]⟩) ![0, 0] (⟨2, ![n, m]⟩ : Shape).size hb) c v (hl := hl) k Q
  have e : (fun x => v ((Rect.unit (s := ⟨2, ![n, m]⟩) ![0, 0] (⟨2, ![n, m]⟩ : Shape).size hb).emb x)) = v := funext fun x => congrArg v (emb_zero2 hb x)
  rw [e] at h
  exact h

omit [FloatOps F] in
theorem tile_written (D : Memref sig .tc .vmem S4096x128 .f32) (i : Fin 4) (f : D.view.ty.Contents (Elt F)) (p : S4096x128.Idx → Elt F .f32)
    (t : S1024x128.Idx → Elt F .f32) (hf : D.view.read (Elt F) f = p) (y : S4096x128.Idx) :
    D.view.read (Elt F) ((D.view.slice (tileRect i)).write (Elt F) f t Finset.univ) y = if tileOf y = i then t (inTile y) else p y := by
  by_cases h : tileOf y = i
  · rw [if_pos h]
    have h1 := View.read_slice_write_emb (v := D.view) (tileRect i) f t (Finset.mem_univ (inTile y))
    have h2 : (tileRect i).emb (inTile y) = y := h ▸ tile_at y
    rw [h2] at h1
    exact h1
  · rw [if_neg h, ← hf]
    refine View.read_slice_write_of_not_mem (v := D.view) (tileRect i) f t Finset.univ fun hm => h ?_
    obtain ⟨x, -, hx⟩ := Finset.mem_map.mp hm
    rw [← hx]
    exact tileOf_emb i x

theorem store_tile (D : Memref sig .tc .vmem S4096x128 .f32) (i : Fin 4) (c : Dev nD) (p : S4096x128.Idx → Elt F .f32) (t : S1024x128.Idx → Elt F .f32)
    {hx : (D.access (tileRect i)).Stores Finset.univ} {hm} {α : Type} (k : PUnit → Pg F α) (Q : α → sProp 𝕄) :
    keeps D c p ⊢ iprop((∀ p' : S4096x128.Idx → Elt F .f32, ⌜∀ y, p' y = if tileOf y = i then t (inTile y) else p y⌝ -∗ keeps D c p' -∗ run c (k ⟨⟩) Q)
      -∗ run c (.op (.store D (tileRect i) t Finset.univ hx hm) k) Q) := by
  unfold keeps
  have hS : (D.access (tileRect i)).setOn Finset.univ ⊆ D.view.set := (View.setOn_subset_set _ _).trans (View.set_slice_subset _ _)
  have key (f : Buf (Elt F) (D.view.loc (c : Thread nD τ))) :
      (D.view.loc (c : Thread nD τ) ↦[D.view.set]{fullShare} f : sProp 𝕄)
        ⊢ iprop(((D.view.loc (c : Thread nD τ) ↦[D.view.set]{fullShare} ((D.view.slice (tileRect i)).write (Elt F) f t Finset.univ)) -∗ run c (k ⟨⟩) Q)
          -∗ run c (.op (.store D (tileRect i) t Finset.univ hx hm) k) Q) :=
    wp_store 𝒱₀ (c : Thread nD τ) none Set.univ (m := D) (r := tileRect i) (w := t) (Mk := Finset.univ) hS
  iintro ⟨%f, %hf, H⟩ Hk
  iapply (key f) $$ H
  iintro H
  iapply Hk $$ %(D.view.read (Elt F) ((D.view.slice (tileRect i)).write (Elt F) f t Finset.univ)) [] [H]
  · ipureintro
    exact tile_written D i f p t hf
  iexists _
  isplitr; · ipureintro; rfl
  iexact H

theorem tileStep_wp (A P : Memref sig .tc .vmem S4096x128 .f32) (W : Memref sig .tc .vmem S128x256 .f32) (W' : Memref sig .tc .vmem S256x128 .f32)
    (i : Fin 4) (c : Dev nD) (a p : S4096x128.Idx → Elt F .f32) (wi : Vec F S128x256 .f32) (wo : Vec F S256x128 .f32) (Q : PUnit → sProp 𝕄) :
    iprop(keeps A c a ∗ keeps P c p ∗ keeps W c wi ∗ keeps W' c wo)
      ⊢ iprop((∀ p' : S4096x128.Idx → Elt F .f32, ⌜∀ y, p' y = if tileOf y = i then prod a wi wo y else p y⌝
          -∗ (keeps A c a ∗ keeps P c p' ∗ keeps W c wi ∗ keeps W' c wo) -∗ Q ⟨⟩) -∗ run c (tileStep A P W W' i) Q) := by
  unfold tileStep
  simp only [Prog.lift, Prog.bind_op, Prog.bind_ret]
  iintro ⟨HA, HP, HW, HW'⟩ Hk
  iapply (load_whole A (tileRect i) c a) $$ HA
  iintro HA
  iapply (load_full W c wi) $$ HW
  iintro HW
  iapply (load_full W' c wo) $$ HW'
  iintro HW'
  iapply (load_whole P (tileRect i) c p) $$ HP
  iintro HP
  rw [Idealize.ShloMosaic.shapeCast_self]
  iapply (store_tile P i c p (tileVal (fun x => a ((tileRect i).emb x)) wi wo)) $$ HP
  iintro %p' %hp HP
  unfold run; rw [wp_ret]
  imodintro
  iapply Hk $$ %p' [] [HA HP HW HW']
  · ipureintro
    intro y
    rw [hp y]
    by_cases h : tileOf y = i
    · rw [if_pos h, if_pos h]; unfold prod; rw [h]
    · rw [if_neg h, if_neg h]
  isplitl [HA]; · iexact HA
  isplitl [HP]; · iexact HP
  isplitl [HW]; · iexact HW
  iexact HW'

theorem tiles_wp (A P : Memref sig .tc .vmem S4096x128 .f32) (W : Memref sig .tc .vmem S128x256 .f32) (W' : Memref sig .tc .vmem S256x128 .f32)
    (c : Dev nD) (a p : S4096x128.Idx → Elt F .f32) (wi : Vec F S128x256 .f32) (wo : Vec F S256x128 .f32) (Q : PUnit → sProp 𝕄) :
    iprop(keeps A c a ∗ keeps P c p ∗ keeps W c wi ∗ keeps W' c wo)
      ⊢ iprop(((keeps A c a ∗ keeps P c (prod a wi wo) ∗ keeps W c wi ∗ keeps W' c wo) -∗ Q ⟨⟩) -∗ run c (tiles A P W W') Q) := by
  unfold tiles
  iintro H Hk
  unfold run
  rw [wp_bind]
  iapply (tileStep_wp A P W W' _ c a p wi wo) $$ H
  iintro %p1 %h1 H
  rw [wp_bind]
  iapply (tileStep_wp A P W W' _ c a p1 wi wo) $$ H
  iintro %p2 %h2 H
  rw [wp_bind]
  iapply (tileStep_wp A P W W' _ c a p2 wi wo) $$ H
  iintro %p3 %h3 H
  iapply (tileStep_wp A P W W' _ c a p3 wi wo) $$ H
  iintro %p4 %h4 H
  have e : p4 = prod a wi wo := funext fun y => by
    rw [h4, h3, h2, h1]
    match tileOf y with
    | ⟨0, _⟩ => rfl
    | ⟨1, _⟩ => rfl
    | ⟨2, _⟩ => rfl
    | ⟨3, _⟩ => rfl
  rw [e]
  iapply Hk; iexact H

end Cert.RingMlp

end
-- ==== Proof.Phases.lean ====
/- A phase: the barrier, and the hops of a gather or of a reduction, from what a device holds between phases to what it holds
   after. -/
module

public import proofs.«01_k».proof.Proof.Loops
public import proofs.«01_k».proof.Proof.Memory
public import Idealize.ShloMosaic.Lib.Ring

@[expose] public section

set_option maxRecDepth 16384

noncomputable section

namespace Cert.RingMlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Between phases -/

/-- What device `c` holds of the ring before phase `r`. -/
def St (c : Dev nD) (r : ℕ) : sProp 𝕄 :=
  iprop(slots c ∗ debt c (32 * r) ∗ reached ER (barCell (prv c)) r ∗ reached ER (barCell (nxt c)) r ∗ atPos ER (barCell c) r ∅ 0
    ∗ bigSep Finset.univ (hopOut c r))

/-- The tokens and the credit of one hop, and of a phase. -/
def hopTok (c : Dev nD) (r : ℕ) (h : Fin 31) : sProp 𝕄 :=
  iprop(dutyTok ER (sendCell c h) r false ∗ dutyTok ER (recvCell (nxt c) h) r false
    ∗ cred (tallyAt (recvCell c h) (32 * r + 1 + h.val + 1) N))
def toks (c : Dev nD) (r : ℕ) : sProp 𝕄 :=
  iprop(dutyTok ER (barCell (prv c)) r true ∗ dutyTok ER (barCell (nxt c)) r false ∗ cred (tallyAt (barCell c) (32 * r + 1) 2)
    ∗ bigSep Finset.univ (hopTok c r))

/-- What a phase runs with once its barrier is passed. -/
def Mid (c : Dev nD) (r : ℕ) : sProp 𝕄 :=
  iprop(debt c (32 * r + 1) ∗ bigSep Finset.univ (fun h => iprop(slotIn (nxt c) r h ∗ hopIn c r h)) ∗ atPos ER (barCell c) (r + 1) ∅ 0
    ∗ reached ER (barCell c) (r + 1))

omit [FloatOps F] in
theorem give_slot (c : Dev nD) (r : ℕ) (h : Fin 31) :
    iprop((∃ v : Blk F, holds (slot cB h) c v) ∗ hopOut c r h) ⊢ iprop(slotIn c r h ∗ hopOut c r h) := by
  unfold hopOut slotIn
  iintro ⟨Hs, HaS, #HrS, HaR, #HrR⟩
  isplitl [Hs]
  · isplitl [Hs]; · iexact Hs
    iexact HrR
  isplitl [HaS]; · iexact HaS
  isplitr; · iexact HrS
  isplitl [HaR]; · iexact HaR
  iexact HrR

omit [FloatOps F] in
theorem give_slots (c : Dev nD) (r : ℕ) : iprop(slots c ∗ bigSep Finset.univ (hopOut c r)) ⊢ iprop(slotsAt (F := F) c r ∗ bigSep Finset.univ (hopOut c r)) := by
  unfold slots slotsAt
  rw [← bigSep_sep']
  have h : (bigSep Finset.univ fun h : Fin 31 => iprop((∃ v : Blk F, holds (slot cB h) c v) ∗ hopOut c r h))
      ⊢ bigSep Finset.univ fun h : Fin 31 => iprop(slotIn (F := F) c r h ∗ hopOut c r h) := bigSep_mono fun h _ => give_slot c r h
  refine h.trans ?_
  rw [bigSep_sep']
  exact Entails.refl _

omit [FloatOps F] in
theorem arm_hop (c : Dev nD) (r : ℕ) (h : Fin 31) :
    iprop(slotIn (F := F) (nxt c) r h ∗ hopOut c r h ∗ hopTok c r h) ⊢ iprop(slotIn (F := F) (nxt c) r h ∗ hopIn c r h) := by
  unfold hopOut hopTok hopIn
  iintro ⟨Hs, ⟨HaS, HrS, HaR, -⟩, HtS, HtR, Hc⟩
  isplitl [Hs]; · iexact Hs
  isplitl [HtS]; · iexact HtS
  isplitl [HrS]; · iexact HrS
  isplitl [HtR]; · iexact HtR
  isplitl [Hc]; · iexact Hc
  isplitl [HaS]; · iexact HaS
  iexact HaR

omit [FloatOps F] in
theorem arm_hops (c : Dev nD) (r : ℕ) :
    iprop(slotsAt (F := F) (nxt c) r ∗ bigSep Finset.univ (hopOut c r) ∗ bigSep Finset.univ (hopTok c r))
      ⊢ bigSep Finset.univ fun h => iprop(slotIn (F := F) (nxt c) r h ∗ hopIn c r h) := by
  have h : (bigSep Finset.univ fun h : Fin 31 => iprop(slotIn (F := F) (nxt c) r h ∗ hopOut c r h ∗ hopTok c r h))
      ⊢ bigSep Finset.univ fun h : Fin 31 => iprop(slotIn (F := F) (nxt c) r h ∗ hopIn c r h) := bigSep_mono fun h _ => arm_hop c r h
  refine BIBase.Entails.trans ?_ h
  rw [bigSep_sep', bigSep_sep']
  exact Entails.refl _

theorem enter_wp (K : Dev nD × Own → ℕ) (dt : Plan F) (c : Dev nD) (r : ℕ) (hr : r < 7) (Q : PUnit → sProp 𝕄) :
    iprop(ctx K dt ∗ St c r ∗ toks c r) ⊢ iprop((Mid c r -∗ Q ⟨⟩) -∗ run c (barrier (prD c) (nxD c) barS) Q) := by
  unfold St toks Mid
  iintro ⟨#HC, ⟨Hsl, HD, HrP, HrN, Ha, Ho⟩, HtP, HtN, Hcr, Ht⟩ Hk
  ihave H := (give_slots c r) $$ [Hsl Ho]
  · isplitl [Hsl]; · iexact Hsl
    iexact Ho
  icases H with ⟨Hsl, Ho⟩
  iapply (barrier_wp K dt c r hr Q) $$ [Hsl HD HtP HtN HrP HrN Hcr Ha]
  · unfold barIn
    isplitr; · iexact HC
    isplitl [Hsl]; · iexact Hsl
    isplitl [HD]; · iexact HD
    isplitl [HtP]; · iexact HtP
    isplitl [HtN]; · iexact HtN
    isplitl [HrP]; · iexact HrP
    isplitl [HrN]; · iexact HrN
    isplitl [Hcr]; · iexact Hcr
    iexact Ha
  iintro ⟨Hsl, HD, Ha, Hr⟩
  iapply Hk
  isplitl [HD]; · iexact HD
  isplitl [Hsl Ho Ht]
  · iapply (arm_hops c r)
    isplitl [Hsl]; · iexact Hsl
    isplitl [Ho]; · iexact Ho
    iexact Ht
  isplitl [Ha]; · iexact Ha
  iexact Hr

/-! ## What the hops leave -/

omit [FloatOps F] in
/-- The first of thirty-one. -/
theorem first_of (G : Fin 31 → sProp 𝕄) : bigSep Finset.univ G ⊢ G ⟨0, by decide⟩ := bigSep_elim (Finset.mem_univ _)

omit [FloatOps F] in
theorem any_slot (c : Dev nD) (h : Fin 31) (v : Blk F) : holds (slot cB h) c v ⊢ iprop(∃ v : Blk F, holds (slot cB h) c v) := by
  iintro H; iexists v; iexact H

/-- What a gather sent is its source and the slots. -/
theorem sent_slots (dt : Plan F) (c : Dev nD) (r : ℕ) (src : Memref sig .tc .vmem S128x128 .f32) (v0 : Blk F) :
    iprop(holds (curM src 31) c (curV dt r c v0 31) ∗ bigSep (Finset.univ : Finset (Fin 31)) (fun h => holds (curM src h.val) c (curV dt r c v0 h.val)))
      ⊢ iprop(holds src c v0 ∗ slots c) := by
  have e := last31 (F := F) (fun k => holds (curM src k) c (curV dt r c v0 k))
  have e' := head31 (F := F) (fun k => holds (curM src k) c (curV dt r c v0 k))
  rw [← e, e']
  have h : (bigSep (Finset.univ : Finset (Fin 31)) fun h => holds (curM src (h.val + 1)) c (curV dt r c v0 (h.val + 1))) ⊢ slots c := by
    unfold slots
    exact bigSep_mono fun h _ => by rw [curM_succ, curV_succ]; exact any_slot c h _
  iintro ⟨H0, H⟩
  isplitl [H0]; · iexact H0
  iapply h; iexact H

set_option maxHeartbeats 1000000 in
theorem gather_wp (K : Dev nD × Own → ℕ) (dt : Plan F) (c : Dev nD) (r : ℕ) (hr : r < 7)
    (src : Memref sig .tc .vmem S128x128 .f32) (hs : src.view.WordExact) (hsrc : ∀ h, srcOf r h c = fwd ends src h) (hN : src.view.dmaCredit = N)
    (v0 : Blk F) (hv : ∀ h : Fin 31, curV dt r c v0 h.val = dt r h (nxt c))
    (D : Memref sig .tc .vmem S4096x128 .f32) (b : Dev nD) (g : FVec F S128x128 .f32 → FVec F S128x128 .f32) (hg : ∀ v, g v = v)
    (o : Fin 31 → Fin 2 → Nat) (ho) (hoff : ∀ h : Fin 31, o h = chunkOff (back b (h.val + 1))) :
    iprop(ctx K dt ∗ Mid c r ∗ holds src c v0 ∗ bigSep Finset.univ (fun h : Fin 31 => iprop(∃ u : Blk F, holds (part D (back b (h.val + 1))) c u)))
      ⊢ run c (runList (gatherHop ends (toD c) src hs D g o ho) hops)
          (fun _ => iprop(St c (r + 1) ∗ holds src c v0 ∗ bigSep Finset.univ (fun h : Fin 31 => holds (part D (back b (h.val + 1))) c (dt r h c)))) := by
  have key := gather_hops K dt c (toD c) (toD_eq c) r hr src hs hsrc hN v0 hv D b g hg o ho hoff
  have hT : iprop(bigSep Finset.univ (fun h => iprop(slotIn (F := F) (nxt c) r h ∗ hopIn c r h))
      ∗ bigSep Finset.univ (fun h : Fin 31 => iprop(∃ u : Blk F, holds (part D (back b (h.val + 1))) c u))) ⊢ bigSep Finset.univ (gTodo (F := F) c r D b) := by
    rw [← bigSep_sep']
    exact bigSep_mono fun h _ => by
      unfold gTodo
      show iprop((slotIn (F := F) (nxt c) r h ∗ hopIn c r h) ∗ _) ⊢ iprop(slotIn (F := F) (nxt c) r h ∗ hopIn c r h ∗ _)
      iintro ⟨⟨H1, H2⟩, H3⟩
      isplitl [H1]; · iexact H1
      isplitl [H2]; · iexact H2
      iexact H3
  have hDn : bigSep Finset.univ (gDone dt c r D b src v0)
      = iprop(bigSep (Finset.univ : Finset (Fin 31)) (fun h => holds (curM src h.val) c (curV dt r c v0 h.val)) ∗ bigSep Finset.univ (hopOut c (r + 1))
        ∗ bigSep (Finset.univ : Finset (Fin 31)) (fun h => reached ER (barCell (back c (h.val + 1))) (r + 1))
        ∗ bigSep Finset.univ (fun h : Fin 31 => holds (part D (back b (h.val + 1))) c (dt r h c))) := by
    unfold gDone
    rw [bigSep_sep', bigSep_sep', bigSep_sep']
  unfold Mid
  iintro ⟨#HC, ⟨HD, Hh, Ha, #Hr⟩, Hsrc, Hd⟩
  ihave Hw := key $$ [HD Hh Hsrc Hd]
  · isplitl [HD Hsrc]
    · unfold gCur
      isplitr; · iexact HC
      isplitl [Hsrc]; · iexact Hsrc
      isplitl [HD]; · iexact HD
      rw [back_zero]; iexact Hr
    iapply hT
    isplitl [Hh]; · iexact Hh
    iexact Hd
  iapply (wp_wand _ _ _) $$ Hw
  iintro %_ ⟨Hc, Hb⟩
  ihave Hb := (Entails.of_eq hDn) $$ Hb
  icases Hb with ⟨Hs, Ho, #HrA, Hd⟩
  unfold gCur
  icases Hc with ⟨-, H31, HD, #Hr31⟩
  ihave Hs := (sent_slots dt c r src v0) $$ [Hs H31]
  · isplitl [H31]; · iexact H31
    iexact Hs
  icases Hs with ⟨Hsrc, Hsl⟩
  isplitr [Hsrc Hd]
  · unfold St
    isplitl [Hsl]; · iexact Hsl
    isplitl [HD]
    · rw [show 32 * (r + 1) = 32 * r + 1 + 31 by omega]; iexact HD
    isplitr; · iapply (first_of fun h => reached ER (barCell (back c (h.val + 1))) (r + 1)); iexact HrA
    isplitr; · rw [back_last]; iexact Hr31
    isplitl [Ha]; · iexact Ha
    iexact Ho
  isplitl [Hsrc]; · iexact Hsrc
  iexact Hd

set_option maxHeartbeats 1000000 in
theorem reduce_wp (K : Dev nD × Own → ℕ) (dt : Plan F) (c : Dev nD) (r : ℕ) (hr : r < 7)
    (hsrc : ∀ h, srcOf r h c = part pB (back c h.val))
    (P : Dev nD → Blk F) (S : ℕ → Blk F) (h0 : S 0 = P c) (hS : ∀ h : Fin 31, S h.val = dt r h (nxt c))
    (hA : ∀ h : Fin 31, (addf (P (back c (h.val + 1))) (dt r h c) : FVec F S128x128 .f32) = S (h.val + 1))
    (o o' : Fin 31 → Fin 2 → Nat) (ho ho') (hoff : ∀ h : Fin 31, o h = chunkOff (back c h.val))
    (hoff' : ∀ h : Fin 31, o' h = chunkOff (back c (h.val + 1))) :
    iprop(ctx K dt ∗ Mid c r ∗ bigSep Finset.univ (fun j => holds (part pB j) c (P j)))
      ⊢ run c (runList (reduceHop ends (toD c) pB o o' ho ho') hops)
          (fun _ => iprop(St c (r + 1) ∗ holds (part pB (nxt c)) c (S 31) ∗ bigSep Finset.univ (fun h : Fin 31 => holds (part pB (back c h.val)) c (S h.val)))) := by
  have key := reduce_hops K dt c (toD c) (toD_eq c) r hr hsrc P S hS hA o o' ho ho' hoff hoff'
  have hT : iprop(bigSep Finset.univ (fun h => iprop(slotIn (F := F) (nxt c) r h ∗ hopIn c r h))
      ∗ bigSep Finset.univ (fun h : Fin 31 => holds (part pB (back c (h.val + 1))) c (P (back c (h.val + 1))))) ⊢ bigSep Finset.univ (rTodo c r P) := by
    rw [← bigSep_sep']
    exact bigSep_mono fun h _ => by
      unfold rTodo
      show iprop((slotIn (F := F) (nxt c) r h ∗ hopIn c r h) ∗ _) ⊢ iprop(slotIn (F := F) (nxt c) r h ∗ hopIn c r h ∗ _)
      iintro ⟨⟨H1, H2⟩, H3⟩
      isplitl [H1]; · iexact H1
      isplitl [H2]; · iexact H2
      iexact H3
  have hDn : bigSep Finset.univ (rDone dt c r S)
      = iprop(bigSep Finset.univ (fun h : Fin 31 => holds (part pB (back c h.val)) c (S h.val)) ∗ bigSep Finset.univ (hopOut c (r + 1))
        ∗ bigSep (Finset.univ : Finset (Fin 31)) (fun h => reached ER (barCell (back c (h.val + 1))) (r + 1))
        ∗ bigSep (Finset.univ : Finset (Fin 31)) (fun h => holds (slot cB h) c (dt r h c))) := by
    unfold rDone
    rw [bigSep_sep', bigSep_sep', bigSep_sep']
  have hsl : bigSep (Finset.univ : Finset (Fin 31)) (fun h => holds (slot cB h) c (dt r h c)) ⊢ slots c := by
    unfold slots
    exact bigSep_mono fun h _ => any_slot c h _
  unfold Mid
  iintro ⟨#HC, ⟨HD, Hh, Ha, #Hr⟩, HP⟩
  ihave HP := (Entails.of_eq (around_head c fun j => holds (part pB j) c (P j))) $$ HP
  icases HP with ⟨Hsrc, Hd⟩
  ihave Hw := key $$ [HD Hh Hsrc Hd]
  · isplitl [HD Hsrc]
    · unfold rCur
      isplitr; · iexact HC
      rw [back_zero, h0]
      isplitl [Hsrc]; · iexact Hsrc
      isplitl [HD]; · iexact HD
      iexact Hr
    iapply hT
    isplitl [Hh]; · iexact Hh
    iexact Hd
  iapply (wp_wand _ _ _) $$ Hw
  iintro %_ ⟨Hc, Hb⟩
  ihave Hb := (Entails.of_eq hDn) $$ Hb
  icases Hb with ⟨Hd, Ho, #HrA, Hs⟩
  have hc : rCur K dt c r S 31 ⊢ iprop(holds (part pB (nxt c)) c (S 31) ∗ debt c (32 * r + 1 + 31) ∗ reached ER (barCell (nxt c)) (r + 1)) := by
    unfold rCur
    rw [back_last]
    iintro ⟨-, H⟩; iexact H
  ihave Hc := hc $$ Hc
  icases Hc with ⟨H31, HD, #Hr31⟩
  ihave Hsl := hsl $$ Hs
  isplitr [H31 Hd]
  · unfold St
    isplitl [Hsl]; · iexact Hsl
    isplitl [HD]
    · rw [show 32 * (r + 1) = 32 * r + 1 + 31 by omega]; iexact HD
    isplitr; · iapply (first_of fun h => reached ER (barCell (back c (h.val + 1))) (r + 1)); iexact HrA
    isplitr; · iexact Hr31
    isplitl [Ha]; · iexact Ha
    iexact Ho
  isplitl [H31]; · iexact H31
  iexact Hd

end Cert.RingMlp

end
-- ==== Proof.Flow.lean ====
/- The values that go round the ring, and the body from what a device holds at the start to what it holds at the end. -/
module

public import proofs.«01_k».proof.Proof.Phases
public import Idealize.ShloMosaic.Lib.Ring
public import Idealize.SL.BI.BigOpNat

@[expose] public section

set_option maxRecDepth 16384

noncomputable section

namespace Cert.RingMlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The values -/

/-- The arguments, device by device: the block of `x`, and the two weights of each layer. -/
structure Ins (F : FTy → Type) where
  X : Dev nD → Blk F
  wi : ℕ → Dev nD → Vec F S128x256 .f32
  wo : ℕ → Dev nD → Vec F S256x128 .f32

/-- The chunk a device is to send after `k` additions: `P c j` is chunk `j` of device `c`'s product. -/
def acc (P : Dev nD → Dev nD → Blk F) : ℕ → Dev nD → Blk F
  | 0, c => P c c
  | k + 1, c => (addf (P c (back c (k + 1))) (acc P k (prv c)) : FVec F S128x128 .f32)

/-- Chunk `j` summed over the devices. -/
def tot (P : Dev nD → Dev nD → Blk F) (j : Dev nD) : Blk F := acc P 31 (prv j)

/-- The rows before layer `l`. -/
def act (I : Ins F) : ℕ → S4096x128.Idx → Elt F .f32
  | 0 => glue I.X
  | l + 1 => glue (tot fun c => cut (prod (act I l) (I.wi l c) (I.wo l c)))

/-- A layer's product on a device, by chunks. -/
def prods (I : Ins F) (l : ℕ) (c : Dev nD) : Dev nD → Blk F := cut (prod (act I l) (I.wi l c) (I.wo l c))

theorem act_succ (I : Ins F) (l : ℕ) : act I (l + 1) = glue (tot (prods I l)) := rfl

/-- What lands. -/
def plan (I : Ins F) : Plan F := fun r h c =>
  if r = 0 then I.X (back c (h.val + 1)) else if r % 2 = 1 then acc (prods I ((r - 1) / 2)) h.val (prv c)
    else tot (prods I ((r - 2) / 2)) (back (nxt c) (h.val + 1))

theorem plan_first (I : Ins F) (h : Fin 31) (c : Dev nD) : plan I 0 h c = I.X (back c (h.val + 1)) := if_pos rfl
theorem plan_odd (I : Ins F) (l : ℕ) (h : Fin 31) (c : Dev nD) : plan I (2 * l + 1) h c = acc (prods I l) h.val (prv c) := by
  unfold plan
  rw [if_neg (by omega), if_pos (by omega), show (2 * l + 1 - 1) / 2 = l by omega]
theorem plan_even (I : Ins F) (l : ℕ) (h : Fin 31) (c : Dev nD) : plan I (2 * l + 2) h c = tot (prods I l) (back (nxt c) (h.val + 1)) := by
  unfold plan
  rw [if_neg (by omega), if_neg (by omega), show (2 * l + 2 - 2) / 2 = l by omega]

theorem src_first (h : Fin 31) (c : Dev nD) : srcOf 0 h c = fwd ends xB h := if_pos rfl
theorem src_odd (l : ℕ) (h : Fin 31) (c : Dev nD) : srcOf (2 * l + 1) h c = part pB (back c h.val) := by
  unfold srcOf; rw [if_neg (by omega), if_pos (by omega)]
theorem src_even (l : ℕ) (h : Fin 31) (c : Dev nD) : srcOf (2 * l + 2) h c = fwd ends (part pB (nxt c)) h := by
  unfold srcOf; rw [if_neg (by omega), if_neg (by omega)]

theorem sent_first (I : Ins F) (c : Dev nD) (h : Fin 31) : curV (plan I) 0 c (I.X c) h.val = plan I 0 h (nxt c) :=
  curV_sent (plan I) 0 c (I.X c) (by rw [plan_first]; exact congrArg I.X (prv_nxt c).symm)
    (fun k hk => by rw [plan_first, plan_first]; exact congrArg I.X (back_nxt c (k + 1) hk)) h

theorem sent_even (I : Ins F) (l : ℕ) (c : Dev nD) (h : Fin 31) :
    curV (plan I) (2 * l + 2) c (tot (prods I l) (nxt c)) h.val = plan I (2 * l + 2) h (nxt c) :=
  curV_sent (plan I) (2 * l + 2) c _ (by rw [plan_even]; exact congrArg (tot (prods I l)) (prv_nxt (nxt c)).symm)
    (fun k hk => by rw [plan_even, plan_even]; exact congrArg (tot (prods I l)) (back_nxt (nxt c) (k + 1) hk)) h

/-! ## Parts at anything -/

/-- Contents for a buffer of words. -/
def blank (φ : FTy) : F φ := FloatOps.ofBits φ 0

omit [FloatOps F] in
theorem any_part (D : Memref sig .tc .vmem S4096x128 .f32) (c j : Dev nD) (v : Blk F) : holds (part D j) c v ⊢ iprop(∃ u : Blk F, holds (part D j) c u) := by
  iintro H; iexists v; iexact H

omit [FloatOps F] in
theorem parts_any (D : Memref sig .tc .vmem S4096x128 .f32) (c b : Dev nD) (g : S4096x128.Idx → Elt F .f32) :
    keeps D c g ⊢ iprop((∃ u : Blk F, holds (part D b) c u) ∗ bigSep Finset.univ (fun h : Fin 31 => iprop(∃ u : Blk F, holds (part D (back b (h.val + 1))) c u))) := by
  refine (keeps_split D c g).trans ?_
  rw [← around_head b fun j => iprop(∃ u : Blk F, holds (part D j) c u)]
  exact bigSep_mono fun j _ => any_part D c j _

theorem any_parts (D : Memref sig .tc .vmem S4096x128 .f32) (f₀ : D.view.ty.Contents (Elt F)) (c : Dev nD) :
    (bigSep Finset.univ fun j => iprop(∃ u : Blk F, holds (part D j) c u)) ⊢ iprop(∃ g, keeps D c g) := by
  have : Nonempty (Blk F) := ⟨fun _ => blank .f32⟩
  have h := bigSep_exists_pi (Y := fun _ => Blk F) (Finset.univ : Finset (Dev nD)) (fun j (u : Blk F) => holds (part D j) c u)
  refine h.trans ?_
  iintro ⟨%B, H⟩
  iexists (glue B)
  iapply (keeps_join D f₀ c B); iexact H

/-! ## The halves of a layer -/

theorem gather_all (K : Dev nD × Own → ℕ) (dt : Plan F) (c : Dev nD) (r : ℕ) (hr : r < 7)
    (src : Memref sig .tc .vmem S128x128 .f32) (hs : src.view.WordExact) (hsrc : ∀ h, srcOf r h c = fwd ends src h) (hN : src.view.dmaCredit = N)
    (V : Dev nD → Blk F) (b : Dev nD) (hv : ∀ h : Fin 31, curV dt r c (V b) h.val = dt r h (nxt c)) (hV : ∀ h : Fin 31, dt r h c = V (back b (h.val + 1)))
    (D : Memref sig .tc .vmem S4096x128 .f32) (f₀ : D.view.ty.Contents (Elt F)) (g : FVec F S128x128 .f32 → FVec F S128x128 .f32) (hg : ∀ v, g v = v)
    (o : Fin 31 → Fin 2 → Nat) (ho) (hoff : ∀ h : Fin 31, o h = chunkOff (back b (h.val + 1))) :
    iprop(ctx K dt ∗ Mid c r ∗ holds src c (V b) ∗ holds (part D b) c (V b)
        ∗ bigSep Finset.univ (fun h : Fin 31 => iprop(∃ u : Blk F, holds (part D (back b (h.val + 1))) c u)))
      ⊢ run c (runList (gatherHop ends (toD c) src hs D g o ho) hops)
          (fun _ => iprop(St c (r + 1) ∗ holds src c (V b) ∗ keeps D c (glue V))) := by
  have key := gather_wp K dt c r hr src hs hsrc hN (V b) hv D b g hg o ho hoff
  have hj : iprop(holds (part D b) c (V b) ∗ bigSep Finset.univ (fun h : Fin 31 => holds (part D (back b (h.val + 1))) c (dt r h c))) ⊢ keeps D c (glue V) := by
    refine BIBase.Entails.trans ?_ (keeps_join D f₀ c V)
    rw [around_head b fun j => holds (part D j) c (V j)]
    simp only [hV]
    exact Entails.refl _
  iintro ⟨HC, HM, Hsrc, Hb, Hd⟩
  ihave Hw := key $$ [HC HM Hsrc Hd]
  · isplitl [HC]; · iexact HC
    isplitl [HM]; · iexact HM
    isplitl [Hsrc]; · iexact Hsrc
    iexact Hd
  iapply (wp_wand _ _ _) $$ Hw
  iintro %_ ⟨HS, Hsrc, Hd⟩
  isplitl [HS]; · iexact HS
  isplitl [Hsrc]; · iexact Hsrc
  iapply hj
  isplitl [Hb]; · iexact Hb
  iexact Hd

omit [FloatOps F] in
theorem holds_keeps (V : Memref sig .tc .vmem S128x128 .f32) (c : Dev nD) (v : Blk F) : holds V c v = keeps V c v := rfl

set_option maxHeartbeats 1000000 in
theorem first_wp (K : Dev nD × Own → ℕ) (I : Ins F) (c : Dev nD) (hx : xB.IsWhole) (f : S4096x128.Idx → Elt F .f32) :
    iprop(ctx K (plan I) ∗ St c 0 ∗ toks c 0 ∗ holds xB c (I.X c) ∗ keeps fB c f)
      ⊢ run c (first ends barS c xB hx fB) (fun _ => iprop(St c 1 ∗ holds xB c (I.X c) ∗ keeps fB c (act I 0))) := by
  have key := gather_all K (plan I) c 0 (by decide) xB hx.wordExact (fun h => src_first h c) N_x I.X c (sent_first I c) (fun h => plan_first I h c)
    fB (fun _ => blank .f32) keep keep_eq (addOff c) (k0_off2_inb c) (addOff_eq c)
  have hk : keep (keep (I.X c)) = I.X c := by rw [keep_eq, keep_eq]
  unfold first
  iintro ⟨#HC, HS, Ht, Hx, Hf⟩
  unfold run
  rw [wp_bind]
  iapply (enter_wp K (plan I) c 0 (by decide)) $$ [HS Ht]
  · isplitr; · iexact HC
    isplitl [HS]; · iexact HS
    iexact Ht
  iintro HM
  simp only [Prog.lift, Prog.bind_op, Prog.bind_ret]
  iapply (load_full xB c (I.X c)) $$ [Hx]
  · rw [← holds_keeps]; iexact Hx
  iintro Hx
  ihave Hf := (parts_any fB c c f) $$ Hf
  icases Hf with ⟨⟨%u, Hb⟩, Hd⟩
  ihave Hb := (Entails.of_eq (congrArg (fun M => holds M c u) (chunk_part fB (k0_off1_inb c) (off1_eq c)).symm)) $$ Hb
  iapply (load_chunk fB (k0_off1 c) (k0_off1_inb c) c u) $$ Hb
  iintro Hb
  rw [hk]
  iapply (store_chunk fB (k0_off1 c) (k0_off1_inb c) c u (I.X c)) $$ Hb
  iintro Hb
  ihave Hb := (Entails.of_eq (congrArg (fun M => holds M c (I.X c)) (chunk_part fB (k0_off1_inb c) (off1_eq c)))) $$ Hb
  iapply key
  isplitr; · iexact HC
  isplitl [HM]; · iexact HM
  isplitl [Hx]; · rw [holds_keeps]; iexact Hx
  isplitl [Hb]; · iexact Hb
  iexact Hd

omit [FloatOps F] in
theorem any_keeps {s : Shape} (M : Memref sig .tc .vmem s .f32) (c : Dev nD) (v : s.Idx → Elt F .f32) : keeps M c v ⊢ iprop(∃ v, keeps M c v) := by
  iintro H; iexists v; iexact H

set_option maxHeartbeats 1000000 in
/-- A layer up to its second barrier. -/
theorem reduce_half (K : Dev nD × Own → ℕ) (I : Ins F) (c : Dev nD) (l : ℕ) (hl : l < 3)
    (W : Memref sig .tc .vmem S128x256 .f32) (W' : Memref sig .tc .vmem S256x128 .f32) (p : S4096x128.Idx → Elt F .f32) (k : Pg F PUnit) (Q : PUnit → sProp 𝕄) :
    iprop(ctx K (plan I) ∗ St c (2 * l + 1) ∗ toks c (2 * l + 1) ∗ toks c (2 * l + 2)
        ∗ keeps fB c (act I l) ∗ keeps pB c p ∗ keeps W c (I.wi l c) ∗ keeps W' c (I.wo l c))
      ⊢ iprop(((Mid c (2 * l + 2) ∗ keeps fB c (act I l) ∗ holds (part pB (nxt c)) c (tot (prods I l) (nxt c))
            ∗ bigSep Finset.univ (fun h : Fin 31 => iprop(∃ u : Blk F, holds (part pB (back c h.val)) c u))
            ∗ keeps W c (I.wi l c) ∗ keeps W' c (I.wo l c)) -∗ run c k Q)
          -∗ run c (do
              barrier (prD c) (nxD c) barS
              tiles fB pB W W'
              runList (reduceHop ends (toD c) pB (sendOff c) (addOff c) (k0_off3_inb c) (k0_off2_inb c)) hops
              barrier (prD c) (nxD c) barS
              k) Q) := by
  have key := reduce_wp K (plan I) c (2 * l + 1) (by omega) (fun h => src_odd l h c) (prods I l c) (fun k => acc (prods I l) k c) rfl
    (fun h => by rw [plan_odd, prv_nxt]) (fun h => by rw [plan_odd]; rfl)
    (sendOff c) (addOff c) (k0_off3_inb c) (k0_off2_inb c) (sendOff_eq c) (addOff_eq c)
  have hsum : acc (prods I l) 31 c = tot (prods I l) (nxt c) := by unfold tot; rw [prv_nxt]
  have hany : bigSep Finset.univ (fun h : Fin 31 => holds (part pB (back c h.val)) c (acc (prods I l) h.val c))
      ⊢ bigSep Finset.univ (fun h : Fin 31 => iprop(∃ u : Blk F, holds (part pB (back c h.val)) c u)) := bigSep_mono fun h _ => any_part pB c _ _
  iintro ⟨#HC, HS, Ht, Ht', Hf, Hp, HW, HW'⟩ Hk
  unfold run
  rw [wp_bind]
  iapply (enter_wp K (plan I) c (2 * l + 1) (by omega)) $$ [HS Ht]
  · isplitr; · iexact HC
    isplitl [HS]; · iexact HS
    iexact Ht
  iintro HM
  rw [wp_bind]
  iapply (tiles_wp fB pB W W' c (act I l) p (I.wi l c) (I.wo l c)) $$ [Hf Hp HW HW']
  · isplitl [Hf]; · iexact Hf
    isplitl [Hp]; · iexact Hp
    isplitl [HW]; · iexact HW
    iexact HW'
  iintro ⟨Hf, Hp, HW, HW'⟩
  ihave Hp := (keeps_split pB c (prod (act I l) (I.wi l c) (I.wo l c))) $$ Hp
  rw [wp_bind]
  ihave Hw := key $$ [HM Hp]
  · isplitr; · iexact HC
    isplitl [HM]; · iexact HM
    iexact Hp
  iapply (wp_wand _ _ _) $$ Hw
  iintro %_ ⟨HS, Hn, Hr⟩
  rw [wp_bind]
  iapply (enter_wp K (plan I) c (2 * l + 2) (by omega)) $$ [HS Ht']
  · isplitr; · iexact HC
    isplitl [HS]; · iexact HS
    iexact Ht'
  iintro HM
  iapply Hk
  isplitl [HM]; · iexact HM
  isplitl [Hf]; · iexact Hf
  isplitl [Hn]; · rw [← hsum]; iexact Hn
  isplitl [Hr]; · iapply hany; iexact Hr
  isplitl [HW]; · iexact HW
  iexact HW'

set_option maxHeartbeats 1000000 in
/-- And from there on. -/
theorem gather_half (K : Dev nD × Own → ℕ) (I : Ins F) (c : Dev nD) (l : ℕ) (hl : l < 3)
    (D : Memref sig .tc .vmem S4096x128 .f32) (f₀ : D.view.ty.Contents (Elt F)) (g : FVec F S128x128 .f32 → FVec F S128x128 .f32) (hg : ∀ v, g v = v)
    (d : S4096x128.Idx → Elt F .f32) {hl hl' hx hm} :
    iprop(ctx K (plan I) ∗ Mid c (2 * l + 2) ∗ holds (part pB (nxt c)) c (tot (prods I l) (nxt c))
        ∗ bigSep Finset.univ (fun h : Fin 31 => iprop(∃ u : Blk F, holds (part pB (back c h.val)) c u)) ∗ keeps D c d)
      ⊢ run c (do
          let v : Vec F S128x128 .f32 ← Prog.lift (.load pB (chunkRect (k0_off4 c) (k0_off4_inb c)).toLoadRect hl)
          let _ : Vec F S128x128 .f32 ← Prog.lift (.load D (chunkRect (k0_off4 c) (k0_off4_inb c)).toLoadRect hl')
          Prog.lift (.store D (chunkRect (k0_off4 c) (k0_off4_inb c)) (g v) Finset.univ hx hm)
          runList (gatherHop ends (toD c) (chunk pB (k0_off5 c) (k0_off5_inb c)) (chunk_exact pB _ _) D g (putOff c) (k0_off6_inb c)) hops)
        (fun _ => iprop(St c (2 * l + 3) ∗ keeps D c (act I (l + 1)) ∗ ∃ p, keeps pB c p)) := by
  have e5 := chunk_part pB (k0_off5_inb c) (off5_eq c)
  have e4 := chunk_part pB (k0_off4_inb c) (off4_eq c)
  have e4' := chunk_part D (k0_off4_inb c) (off4_eq c)
  have key := gather_all K (plan I) c (2 * l + 2) (by omega) (chunk pB (k0_off5 c) (k0_off5_inb c)) (chunk_exact pB _ _)
    (fun h => by rw [src_even, e5]) rfl (tot (prods I l)) (nxt c) (sent_even I l c) (fun h => plan_even I l h c)
    D f₀ g hg (putOff c) (k0_off6_inb c) (putOff_eq c)
  have hj : iprop(holds (chunk pB (k0_off5 c) (k0_off5_inb c)) c (tot (prods I l) (nxt c))
      ∗ bigSep Finset.univ (fun h : Fin 31 => iprop(∃ u : Blk F, holds (part pB (back c h.val)) c u))) ⊢ iprop(∃ p, keeps pB c p) := by
    refine BIBase.Entails.trans ?_ (any_parts pB (fun _ => blank .f32) c)
    rw [around_last c fun j => iprop(∃ u : Blk F, holds (part pB j) c u), e5]
    iintro ⟨H, H'⟩
    isplitl [H]; · iexists _; iexact H
    iexact H'
  iintro ⟨#HC, HM, Hn, Hr, HD⟩
  simp only [Prog.lift, Prog.bind_op, Prog.bind_ret]
  ihave Hn := (Entails.of_eq (congrArg (fun M => holds M c (tot (prods I l) (nxt c))) e4.symm)) $$ Hn
  iapply (load_chunk pB (k0_off4 c) (k0_off4_inb c) c (tot (prods I l) (nxt c))) $$ Hn
  iintro Hn
  ihave Hd := (parts_any D c (nxt c) d) $$ HD
  icases Hd with ⟨⟨%u, Hb⟩, Hd⟩
  ihave Hb := (Entails.of_eq (congrArg (fun M => holds M c u) e4'.symm)) $$ Hb
  iapply (load_chunk D (k0_off4 c) (k0_off4_inb c) c u) $$ Hb
  iintro Hb
  rw [hg]
  iapply (store_chunk D (k0_off4 c) (k0_off4_inb c) c u (tot (prods I l) (nxt c))) $$ Hb
  iintro Hb
  ihave Hb := (Entails.of_eq (congrArg (fun M => holds M c (tot (prods I l) (nxt c))) e4')) $$ Hb
  ihave Hn := (Entails.of_eq (congrArg (fun M => holds M c (tot (prods I l) (nxt c))) (e4.trans e5.symm))) $$ Hn
  ihave Hw := key $$ [HM Hn Hb Hd]
  · isplitr; · iexact HC
    isplitl [HM]; · iexact HM
    isplitl [Hn]; · iexact Hn
    isplitl [Hb]; · iexact Hb
    iexact Hd
  iapply (wp_wand _ _ _) $$ Hw
  iintro %_ ⟨HS, Hn, HD⟩
  isplitl [HS]; · iexact HS
  isplitl [HD]; · rw [act_succ]; iexact HD
  iapply hj
  isplitl [Hn]; · iexact Hn
  iexact Hr

/-- What a device holds before layer `l` and after. -/
def Layer (I : Ins F) (c : Dev nD) (l l' : ℕ) (W : Memref sig .tc .vmem S128x256 .f32) (W' : Memref sig .tc .vmem S256x128 .f32) : sProp 𝕄 :=
  iprop(St c (2 * l + 1) ∗ (∃ p, keeps pB c p) ∗ keeps W c (I.wi l' c) ∗ keeps W' c (I.wo l' c))

/-- A layer whose result goes back where the rows were. -/
theorem layer_inner (K : Dev nD × Own → ℕ) (I : Ins F) (c : Dev nD) (l : ℕ) (hl : l < 3)
    (W : Memref sig .tc .vmem S128x256 .f32) (W' : Memref sig .tc .vmem S256x128 .f32) :
    iprop(ctx K (plan I) ∗ toks c (2 * l + 1) ∗ toks c (2 * l + 2) ∗ Layer I c l l W W' ∗ keeps fB c (act I l))
      ⊢ run c (layer ends barS c fB pB fB keep W W') (fun _ => iprop(Layer I c (l + 1) l W W' ∗ keeps fB c (act I (l + 1)))) := by
  unfold layer Layer
  iintro ⟨#HC, Ht, Ht', ⟨HS, ⟨%p, Hp⟩, HW, HW'⟩, Hf⟩
  iapply (reduce_half K I c l hl W W' p) $$ [HS Ht Ht' Hf Hp HW HW']
  · isplitr; · iexact HC
    isplitl [HS]; · iexact HS
    isplitl [Ht]; · iexact Ht
    isplitl [Ht']; · iexact Ht'
    isplitl [Hf]; · iexact Hf
    isplitl [Hp]; · iexact Hp
    isplitl [HW]; · iexact HW
    iexact HW'
  iintro ⟨HM, Hf, Hn, Hr, HW, HW'⟩
  ihave Hw := (gather_half K I c l hl fB (fun _ => blank .f32) keep keep_eq (act I l)) $$ [HM Hn Hr Hf]
  · isplitr; · iexact HC
    isplitl [HM]; · iexact HM
    isplitl [Hn]; · iexact Hn
    isplitl [Hr]; · iexact Hr
    iexact Hf
  iapply (wp_wand _ _ _) $$ Hw
  iintro %_ ⟨HS, Hf, Hp⟩
  isplitr [Hf]
  · isplitl [HS]; · iexact HS
    isplitl [Hp]; · iexact Hp
    isplitl [HW]; · iexact HW
    iexact HW'
  iexact Hf

/-- The last one. -/
theorem layer_outer (K : Dev nD × Own → ℕ) (I : Ins F) (c : Dev nD) (l : ℕ) (hl : l < 3)
    (W : Memref sig .tc .vmem S128x256 .f32) (W' : Memref sig .tc .vmem S256x128 .f32) (d : S4096x128.Idx → Elt F .f32) :
    iprop(ctx K (plan I) ∗ toks c (2 * l + 1) ∗ toks c (2 * l + 2) ∗ Layer I c l l W W' ∗ keeps fB c (act I l) ∗ keeps oB c d)
      ⊢ run c (layer ends barS c fB pB oB (fun v => v) W W')
          (fun _ => iprop(Layer I c (l + 1) l W W' ∗ keeps fB c (act I l) ∗ keeps oB c (act I (l + 1)))) := by
  unfold layer Layer
  iintro ⟨#HC, Ht, Ht', ⟨HS, ⟨%p, Hp⟩, HW, HW'⟩, Hf, Hd⟩
  iapply (reduce_half K I c l hl W W' p) $$ [HS Ht Ht' Hf Hp HW HW']
  · isplitr; · iexact HC
    isplitl [HS]; · iexact HS
    isplitl [Ht]; · iexact Ht
    isplitl [Ht']; · iexact Ht'
    isplitl [Hf]; · iexact Hf
    isplitl [Hp]; · iexact Hp
    isplitl [HW]; · iexact HW
    iexact HW'
  iintro ⟨HM, Hf, Hn, Hr, HW, HW'⟩
  ihave Hw := (gather_half K I c l hl oB (fun _ => blank .f32) (fun v => v) (fun _ => rfl) d) $$ [HM Hn Hr Hd]
  · isplitr; · iexact HC
    isplitl [HM]; · iexact HM
    isplitl [Hn]; · iexact Hn
    isplitl [Hr]; · iexact Hr
    iexact Hd
  iapply (wp_wand _ _ _) $$ Hw
  iintro %_ ⟨HS, Hd, Hp⟩
  isplitr [Hf Hd]
  · isplitl [HS]; · iexact HS
    isplitl [Hp]; · iexact Hp
    isplitl [HW]; · iexact HW
    iexact HW'
  isplitl [Hf]; · iexact Hf
  iexact Hd

/-! ## The body -/

/-- The weights' staging buffers. -/
abbrev wiB : ℕ → Memref sig .tc .vmem S128x256 .f32
  | 0 => Memref.whole cc0_stg1_0
  | 1 => Memref.whole cc0_stg3_0
  | _ => Memref.whole cc0_stg5_0
abbrev woB : ℕ → Memref sig .tc .vmem S256x128 .f32
  | 0 => Memref.whole cc0_stg2_0
  | 1 => Memref.whole cc0_stg4_0
  | _ => Memref.whole cc0_stg6_0

/-- The two weights of layer `l` on device `c`, and all six. -/
def wts (I : Ins F) (c : Dev nD) (l : ℕ) : sProp 𝕄 := iprop(keeps (wiB l) c (I.wi l c) ∗ keeps (woB l) c (I.wo l c))

set_option maxHeartbeats 1000000 in
theorem body_wp (K : Dev nD × Own → ℕ) (I : Ins F) (c : Dev nD) (hx : xB.IsWhole) (f p d : S4096x128.Idx → Elt F .f32) :
    iprop(ctx K (plan I) ∗ bigSep (Finset.range 7) (toks c) ∗ St c 0 ∗ holds xB c (I.X c) ∗ keeps fB c f ∗ keeps pB c p ∗ keeps oB c d
        ∗ wts I c 0 ∗ wts I c 1 ∗ wts I c 2)
      ⊢ run c (body xB hx (wiB 0) (woB 0) (wiB 1) (woB 1) (wiB 2) (woB 2) oB fB pB cB cc0_scratch3 cc0_scratch4 barS)
          (fun _ => iprop(St c 7 ∗ holds xB c (I.X c) ∗ (∃ f, keeps fB c f) ∗ (∃ p, keeps pB c p) ∗ keeps oB c (act I 3)
            ∗ wts I c 0 ∗ wts I c 1 ∗ wts I c 2)) := by
  have ht : bigSep (Finset.range 7) (toks (F := F) c)
      = iprop(toks c 6 ∗ toks c 5 ∗ toks c 4 ∗ toks c 3 ∗ toks c 2 ∗ toks c 1 ∗ toks c 0 ∗ emp) := by
    rw [bigSep_range_succ, bigSep_range_succ, bigSep_range_succ, bigSep_range_succ, bigSep_range_succ, bigSep_range_succ, bigSep_range_succ]
    rfl
  unfold body
  unfold wts run
  rw [ht]
  iintro ⟨#HC, ⟨H6, H5, H4, H3, H2, H1, H0, -⟩, HS, Hx, Hf, Hp, Hd, ⟨HW0, HV0⟩, ⟨HW1, HV1⟩, ⟨HW2, HV2⟩⟩
  simp only [Prog.lift, Prog.bind_op, Prog.bind_ret, wp_deviceId]
  rw [wp_bind]
  ihave Hw := (first_wp K I c hx f) $$ [HS H0 Hx Hf]
  · isplitr; · iexact HC
    isplitl [HS]; · iexact HS
    isplitl [H0]; · iexact H0
    isplitl [Hx]; · iexact Hx
    iexact Hf
  iapply (wp_wand _ _ _) $$ Hw
  iintro %_ ⟨HS, Hx, Hf⟩
  rw [wp_bind]
  ihave Hw := (layer_inner K I c 0 (by decide) (wiB 0) (woB 0)) $$ [H1 H2 HS Hp HW0 HV0 Hf]
  · isplitr; · iexact HC
    isplitl [H1]; · iexact H1
    isplitl [H2]; · iexact H2
    isplitr [Hf]
    · unfold Layer
      isplitl [HS]; · iexact HS
      isplitl [Hp]; · iexists p; iexact Hp
      isplitl [HW0]; · iexact HW0
      iexact HV0
    iexact Hf
  iapply (wp_wand _ _ _) $$ Hw
  unfold Layer
  iintro %_ ⟨⟨HS, Hp, HW0, HV0⟩, Hf⟩
  rw [wp_bind]
  ihave Hw := (layer_inner K I c 1 (by decide) (wiB 1) (woB 1)) $$ [H3 H4 HS Hp HW1 HV1 Hf]
  · isplitr; · iexact HC
    isplitl [H3]; · iexact H3
    isplitl [H4]; · iexact H4
    isplitr [Hf]
    · unfold Layer
      isplitl [HS]; · iexact HS
      isplitl [Hp]; · iexact Hp
      isplitl [HW1]; · iexact HW1
      iexact HV1
    iexact Hf
  iapply (wp_wand _ _ _) $$ Hw
  unfold Layer
  iintro %_ ⟨⟨HS, Hp, HW1, HV1⟩, Hf⟩
  ihave Hw := (layer_outer K I c 2 (by decide) (wiB 2) (woB 2) d) $$ [H5 H6 HS Hp HW2 HV2 Hf Hd]
  · isplitr; · iexact HC
    isplitl [H5]; · iexact H5
    isplitl [H6]; · iexact H6
    isplitr [Hf Hd]
    · unfold Layer
      isplitl [HS]; · iexact HS
      isplitl [Hp]; · iexact Hp
      isplitl [HW2]; · iexact HW2
      iexact HV2
    isplitl [Hf]; · iexact Hf
    iexact Hd
  iapply (wp_wand _ _ _) $$ Hw
  unfold Layer
  iintro %_ ⟨⟨HS, Hp, HW2, HV2⟩, Hf, Hd⟩
  isplitl [HS]; · iexact HS
  isplitl [Hx]; · iexact Hx
  isplitl [Hf]; · iexists _; iexact Hf
  isplitl [Hp]; · iexact Hp
  isplitl [Hd]; · iexact Hd
  isplitl [HW0 HV0]
  · isplitl [HW0]; · iexact HW0
    iexact HV0
  isplitl [HW1 HV1]
  · isplitl [HW1]; · iexact HW1
    iexact HV1
  isplitl [HW2]; · iexact HW2
  iexact HV2

end Cert.RingMlp

end
-- ==== Proof.Start.lean ====
/- The start and the end of the ring's protocol: the tokens carried to who pays with them, the credits from what is owed,
   the positions at round zero; and the cells closed after the seventh round. -/
module

public import proofs.«01_k».proof.Proof.Phases
public import Idealize.ShloMosaic.Lib.Ring
public import Idealize.ShloMosaic.Lib.Rounds.Family
public import Idealize.SL.BI.BigOpNat

@[expose] public section

set_option maxRecDepth 16384

noncomputable section

namespace Cert.RingMlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem ownSemFacts : Pipeline.OwnSemFacts cfg0.spec own := by decide +kernel

/-! ## The tokens -/

/-- The duties of a device's own cells: the round, and which. -/
abbrev Turn : Type := Fin 7 × (Bool ⊕ (Fin 31 ⊕ Fin 31))
def turn : Turn → Own × ℕ × Bool
  | (r, .inl b) => (.inl (), r.val, b)
  | (r, .inr x) => (.inr x, r.val, false)

theorem turn_inj : Function.Injective turn := by
  rintro ⟨r, b | x⟩ ⟨r', b' | x'⟩ h <;> simp only [turn, Prod.mk.injEq, Sum.inr.injEq, reduceCtorEq, false_and] at h
  · obtain ⟨-, h1, rfl⟩ := h; rw [Fin.ext h1]
  · obtain ⟨rfl, h1, -⟩ := h; rw [Fin.ext h1]

def duties (_ : Dev nD) : Finset (Own × ℕ × Bool) := Finset.univ.map ⟨turn, turn_inj⟩

/-- The tokens of one round of a device's own cells, -/
def mine (c : Dev nD) (r : ℕ) : sProp 𝕄 :=
  iprop((dutyTok ER (barCell c) r true ∗ dutyTok ER (barCell c) r false)
    ∗ (bigSep Finset.univ fun h : Fin 31 => dutyTok ER (sendCell c h) r false) ∗ bigSep Finset.univ fun h : Fin 31 => dutyTok ER (recvCell c h) r false)
/-- and of what it pays. -/
def paid (c : Dev nD) (r : ℕ) : sProp 𝕄 :=
  iprop((dutyTok ER (barCell (prv c)) r true ∗ dutyTok ER (barCell (nxt c)) r false)
    ∗ (bigSep Finset.univ fun h : Fin 31 => dutyTok ER (sendCell c h) r false) ∗ bigSep Finset.univ fun h : Fin 31 => dutyTok ER (recvCell (nxt c) h) r false)

omit [FloatOps F] in
theorem both (Φ : Bool → sProp 𝕄) : bigSep Finset.univ Φ = iprop(Φ true ∗ Φ false) := by
  rw [show (Finset.univ : Finset Bool) = {true, false} from by decide, bigSep_insert (by decide), bigSep_singleton]
  rfl

omit [FloatOps F] in
theorem mine_eq (c : Dev nD) :
    (bigSep (duties c) fun x => (dutyTok ER ((c.tc : Thread nD τ), own x.1) x.2.1 x.2.2 : sProp 𝕄)) = bigSep (Finset.range 7) (mine c) := by
  unfold duties
  rw [bigSep_map, bigSep_univ_prod]
  refine Ring.bigSep_fin_eq_range 7 _ _ fun r hr => ?_
  rw [bigSep_univ_sum, bigSep_univ_sum, both]
  rfl

omit [FloatOps F] in
/-- A family over the devices, moved around the ring. -/
theorem shift (e : Dev nD ≃ Dev nD) (f : Dev nD → Dev nD) (h : ∀ c, e c = f c) (Φ : Dev nD → sProp 𝕄) :
    bigSep Finset.univ Φ = bigSep Finset.univ fun c => Φ (f c) := by
  rw [bigSep_univ_equiv e Φ]
  exact bigSep_congr fun c _ => congrArg Φ (h c)

omit [FloatOps F] in
theorem around (r : ℕ) : (bigSep Finset.univ fun c : Dev nD => (mine c r : sProp 𝕄)) = bigSep Finset.univ fun c : Dev nD => paid c r := by
  have h1 : (bigSep Finset.univ fun c : Dev nD => (dutyTok ER (barCell c) r true : sProp 𝕄))
      = bigSep Finset.univ fun c : Dev nD => dutyTok ER (barCell (prv c)) r true := shift ring.symm prv (fun _ => rfl) _
  have h2 : (bigSep Finset.univ fun c : Dev nD => (dutyTok ER (barCell c) r false : sProp 𝕄))
      = bigSep Finset.univ fun c : Dev nD => dutyTok ER (barCell (nxt c)) r false := shift ring nxt (fun _ => rfl) _
  have h3 : (bigSep Finset.univ fun c : Dev nD => bigSep Finset.univ fun h : Fin 31 => (dutyTok ER (recvCell c h) r false : sProp 𝕄))
      = bigSep Finset.univ fun c : Dev nD => bigSep Finset.univ fun h : Fin 31 => dutyTok ER (recvCell (nxt c) h) r false :=
    shift ring nxt (fun _ => rfl) fun c => bigSep Finset.univ fun h : Fin 31 => (dutyTok ER (recvCell c h) r false : sProp 𝕄)
  unfold mine paid
  rw [bigSep_sep', bigSep_sep', bigSep_sep', bigSep_sep', bigSep_sep', bigSep_sep', h1, h2, h3]

omit [FloatOps F] in
theorem swap (A B : Dev nD → ℕ → sProp 𝕄) (h : ∀ r, (bigSep Finset.univ fun c : Dev nD => A c r) = bigSep Finset.univ fun c : Dev nD => B c r) (n : ℕ) :
    (bigSep Finset.univ fun c : Dev nD => bigSep (Finset.range n) (A c)) = bigSep Finset.univ fun c : Dev nD => bigSep (Finset.range n) (B c) := by
  induction n with
  | zero => simp only [Finset.range_zero, bigSep_empty]
  | succ n ih =>
    rw [bigSep_congr (s := Finset.univ) (fun c _ => bigSep_range_succ n (A c)), bigSep_congr (s := Finset.univ) (fun c _ => bigSep_range_succ n (B c)),
      bigSep_sep', bigSep_sep', ih, h n]

omit [FloatOps F] in
theorem around_all :
    (bigSep Finset.univ fun c : Dev nD => bigSep (Finset.range 7) (mine (F := F) c)) = bigSep Finset.univ fun c : Dev nD => bigSep (Finset.range 7) (paid c) :=
  swap mine paid around 7

/-! ## The credits -/

/-- The credits of one phase. -/
def crd (c : Dev nD) (r : ℕ) : sProp 𝕄 :=
  iprop(cred (tallyAt (barCell c) (32 * r + 1) 2) ∗ bigSep Finset.univ fun h : Fin 31 => cred (tallyAt (recvCell c h) (32 * r + 1 + h.val + 1) N))

theorem by_phase {A : Type} [AddCommMonoid A] (f : ℕ → A) (n : ℕ) :
    ∑ s ∈ Finset.range (32 * n), f s = ∑ r ∈ Finset.range n, (f (32 * r) + ∑ h : Fin 31, f (32 * r + 1 + h.val)) := by
  induction n with
  | zero => rfl
  | succ n ih =>
    rw [Finset.sum_range_succ, ← ih, show 32 * (n + 1) = 32 * n + (31 + 1) from by omega, Finset.sum_range_add, Finset.sum_range_succ' _ 31, Finset.sum_range]
    rw [add_comm (f (32 * n))]
    refine congrArg₂ _ rfl (congrArg₂ _ (Finset.sum_congr rfl fun h _ => congrArg f (by omega)) rfl)

theorem owed_start (c : Dev nD) : owed c 0
    = ∑ r ∈ Finset.range 7, (due c (32 * r) + ∑ h : Fin 31, due c (32 * r + 1 + h.val)) := by
  rw [← by_phase (due c) 7]
  unfold owed
  rw [Finset.range_eq_Ico]

omit [FloatOps F] in
theorem cred_bar (c : Dev nD) (r : ℕ) :
    (Pipeline.launchCred (fun d : Dev nD => due d (32 * r)) c : sProp 𝕄) ⊢ cred (tallyAt (barCell c) (32 * r + 1) 2) := by
  have e : (fun d : Dev nD => due d (32 * r)) = fun d => tallyAt (barCell (prv d)) (32 * r + 1) 1 + tallyAt (barCell (nxt d)) (32 * r + 1) 1 :=
    funext fun d => due_bar d r
  rw [e, Pipeline.launchCred_add, show (2 : ℕ) = 1 + 1 from rfl, ← tallyAt_add]
  refine BIBase.Entails.trans ?_ (cred_add _ _).2
  exact BIClass.sep_mono (Pipeline.launchCred_tallyAt (SemLoc.reg barS.sem) prv nxt prv_nxt nxt_prv (32 * r + 1) 1 c)
    (Pipeline.launchCred_tallyAt (SemLoc.reg barS.sem) nxt prv nxt_prv prv_nxt (32 * r + 1) 1 c)

omit [FloatOps F] in
theorem cred_hop (c : Dev nD) (r : ℕ) (h : Fin 31) :
    (Pipeline.launchCred (fun d : Dev nD => due d (32 * r + 1 + h.val)) c : sProp 𝕄) ⊢ cred (tallyAt (recvCell c h) (32 * r + 1 + h.val + 1) N) := by
  have e : (fun d : Dev nD => due d (32 * r + 1 + h.val)) = fun d => tallyAt (recvCell (nxt d) h) (32 * r + 1 + h.val + 1) N :=
    funext fun d => due_hop d r h
  rw [e]
  exact Pipeline.launchCred_tallyAt (SemLoc.dma (semAt cc0_scratch4 h)) nxt prv nxt_prv prv_nxt (32 * r + 1 + h.val + 1) N c

omit [FloatOps F] in
theorem cred_phase (c : Dev nD) (r : ℕ) :
    (Pipeline.launchCred (fun d : Dev nD => due d (32 * r) + ∑ h : Fin 31, due d (32 * r + 1 + h.val)) c : sProp 𝕄) ⊢ crd c r := by
  rw [Pipeline.launchCred_add (fun d : Dev nD => due d (32 * r)) (fun d => ∑ h : Fin 31, due d (32 * r + 1 + h.val)),
    Pipeline.launchCred_sum Finset.univ (fun (h : Fin 31) (d : Dev nD) => due d (32 * r + 1 + h.val))]
  exact BIClass.sep_mono (cred_bar c r) (bigSep_mono fun h _ => cred_hop c r h)

omit [FloatOps F] in
theorem creds (c : Dev nD) : (Pipeline.launchCred (fun d : Dev nD => owed d 0) c : sProp 𝕄) ⊢ bigSep (Finset.range 7) (crd c) := by
  have e : (fun d : Dev nD => owed d 0) = fun d => ∑ r ∈ Finset.range 7, (due d (32 * r) + ∑ h : Fin 31, due d (32 * r + 1 + h.val)) :=
    funext owed_start
  rw [e, Pipeline.launchCred_sum (Finset.range 7) (fun (r : ℕ) (d : Dev nD) => due d (32 * r) + ∑ h : Fin 31, due d (32 * r + 1 + h.val))]
  exact bigSep_mono fun r _ => cred_phase c r

omit [FloatOps F] in
theorem toks_intro (c : Dev nD) (r : ℕ) : iprop(paid c r ∗ crd c r) ⊢ (toks c r : sProp 𝕄) := by
  unfold paid crd toks hopTok
  rw [bigSep_sep', bigSep_sep']
  iintro ⟨⟨⟨H1, H2⟩, H3, H4⟩, H5, H6⟩
  isplitl [H1]; · iexact H1
  isplitl [H2]; · iexact H2
  isplitl [H5]; · iexact H5
  isplitl [H3]; · iexact H3
  isplitl [H4]; · iexact H4
  iexact H6

omit [FloatOps F] in
theorem toks_all (c : Dev nD) :
    iprop(bigSep (Finset.range 7) (paid c) ∗ bigSep (Finset.range 7) (crd c)) ⊢ (bigSep (Finset.range 7) (toks c) : sProp 𝕄) := by
  rw [← bigSep_sep']
  exact bigSep_mono fun r _ => toks_intro c r

/-! ## The positions -/

/-- Where a device stands before the first phase. -/
def links (c : Dev nD) : sProp 𝕄 :=
  iprop(reached ER (barCell (prv c)) 0 ∗ reached ER (barCell (nxt c)) 0 ∗ atPos ER (barCell c) 0 ∅ 0 ∗ bigSep Finset.univ (hopOut c 0))

omit [FloatOps F] in
theorem St_start (c : Dev nD) (f : Buf (Elt F) ((c : Thread nD τ).loc cc0_scratch2)) :
    iprop(links c ∗ debt c 0 ∗ (((c : Thread nD τ).loc cc0_scratch2) ↦{fullShare} f)) ⊢ (St c 0 : sProp 𝕄) := by
  unfold links St
  iintro ⟨⟨H1, H2, H3, H4⟩, HD, Hf⟩
  isplitl [Hf]; · iapply (slots_split c f); iexact Hf
  isplitl [HD]; · iexact HD
  isplitl [H1]; · iexact H1
  isplitl [H2]; · iexact H2
  isplitl [H3]; · iexact H3
  iexact H4

omit [FloatOps F] in
theorem own_split (Φ : Own → sProp 𝕄) :
    bigSep Finset.univ Φ = iprop(Φ (.inl ()) ∗ bigSep Finset.univ (fun h => Φ (.inr (.inl h))) ∗ bigSep Finset.univ (fun h => Φ (.inr (.inr h)))) := by
  rw [bigSep_univ_sum, bigSep_univ_sum, show (Finset.univ : Finset Unit) = {()} from rfl, bigSep_singleton]
  rfl

omit [FloatOps F] in
theorem reached_at (ck : Dev nD × Own) :
    (bigSep Finset.univ fun ck : Dev nD × Own => (reached ER (kcell ck) 0 : sProp 𝕄)) ⊢ reached ER (kcell ck) 0 :=
  bigSep_elim (Finset.mem_univ ck)

omit [FloatOps F] in
theorem hop_start (c : Dev nD) (h : Fin 31) :
    iprop((bigSep Finset.univ fun ck : Dev nD × Own => (reached ER (kcell ck) 0 : sProp 𝕄))
        ∗ (atPos ER (sendCell c h) 0 ∅ 0 ∗ atPos ER (recvCell c h) 0 ∅ 0)) ⊢ hopOut c 0 h := by
  unfold hopOut
  iintro ⟨#HR, H1, H2⟩
  isplitl [H1]; · iexact H1
  isplitr; · iapply (reached_at (c, .inr (.inl h))); iexact HR
  isplitl [H2]; · iexact H2
  iapply (reached_at (c, .inr (.inr h))); iexact HR

omit [FloatOps F] in
/-- A persistent assertion beside a family serves each member. -/
theorem serve {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem links_intro (c : Dev nD) :
    iprop((bigSep Finset.univ fun ck : Dev nD × Own => (reached ER (kcell ck) 0 : sProp 𝕄))
        ∗ bigSep Finset.univ fun k : Own => (atPos ER (kcell (c, k)) 0 ∅ 0 : sProp 𝕄)) ⊢ links c := by
  rw [own_split]
  unfold links
  iintro ⟨#HR, H0, H1, H2⟩
  isplitr; · iapply (reached_at (prv c, .inl ())); iexact HR
  isplitr; · iapply (reached_at (nxt c, .inl ())); iexact HR
  isplitl [H0]; · iexact H0
  iapply (serve (F := F) fun h _ => hop_start c h)
  isplitr; · iexact HR
  rw [bigSep_sep']
  isplitl [H1]; · iexact H1
  iexact H2

/-! ## The end -/

/-- Where a device stands after the last phase. -/
theorem St_end (c : Dev nD) : (St c 7 : sProp 𝕄)
    ⊢ iprop(slots c ∗ debt c 224 ∗ bigSep Finset.univ fun k : Own => (atPos ER (kcell (c, k)) 7 ∅ 0 : sProp 𝕄)) := by
  have hh (h : Fin 31) : (hopOut c 7 h : sProp 𝕄) ⊢ iprop(atPos ER (sendCell c h) 7 ∅ 0 ∗ atPos ER (recvCell c h) 7 ∅ 0) := by
    unfold hopOut
    iintro ⟨H1, -, H2, -⟩
    isplitl [H1]; · iexact H1
    iexact H2
  have hs : (bigSep Finset.univ (hopOut c 7) : sProp 𝕄)
      ⊢ iprop(bigSep Finset.univ (fun h => atPos ER (sendCell c h) 7 ∅ 0) ∗ bigSep Finset.univ (fun h => atPos ER (recvCell c h) 7 ∅ 0)) := by
    rw [← bigSep_sep']
    exact bigSep_mono fun h _ => hh h
  rw [own_split]
  unfold St
  iintro ⟨Hs, HD, -, -, Ha, Hh⟩
  ihave H := hs $$ Hh
  icases H with ⟨H1, H2⟩
  isplitl [Hs]; · iexact Hs
  isplitl [HD]; · iexact HD
  isplitl [Ha]; · iexact Ha
  isplitl [H1]; · iexact H1
  iexact H2

omit [FloatOps F] in
theorem close_all (K : Dev nD × Own → ℕ) (dt : Plan F) (c : Dev nD) :
    iprop(ctx K dt ∗ bigSep Finset.univ fun k : Own => (atPos ER (kcell (c, k)) 7 ∅ 0 : sProp 𝕄))
      ⊢ |={Set.univ}=> (Pipeline.ownSems0 own c : sProp 𝕄) := by
  have h : iprop(ctx K dt ∗ bigSep Finset.univ fun k : Own => (atPos ER (kcell (c, k)) 7 ∅ 0 : sProp 𝕄))
      ⊢ bigSep Finset.univ fun k : Own => iprop(cellInv ER (sched dt) (K (c, k)) (kcell (c, k)) ∗ atPos ER (kcell (c, k)) 7 ∅ 0) :=
    serve fun k _ => sep_mono_left (ctx_inv K dt (c, k))
  refine h.trans ?_
  exact Rounds.cells_close ER (sched dt) Finset.univ (fun k : Own => kcell (c, k)) (fun k => K (c, k)) (fun _ _ => Set.mem_univ _)
    (fun _ _ h => h) (fun _ => 7) (fun k _ => duties_later dt (kcell (c, k)))

end Cert.RingMlp

end
-- ==== Proof.Launch.lean ====
/- What a device starts from and ends with, the pipeline's data for it, and the body between the two. -/
module

public import proofs.«01_k».proof.Proof.Flow
public import proofs.«01_k».proof.Proof.Start
public import Idealize.ShloMosaic.Lib.Ring

@[expose] public section

set_option maxRecDepth 16384

noncomputable section

namespace Cert.RingMlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

abbrev s₀ : MemSt nD τ sig (Elt F) := ⟨m, fun _ => 0, ρ⟩

/-- What the windows bring in: the blocks of the arrays. -/
def ins : Ins F where
  X c := (win0_0.blk (0 : Fin 1)).view.read (Elt F) (m ((c : Thread nD τ).loc main_arg0))
  wi l c := match l with
    | 0 => (win0_1.blk (0 : Fin 1)).view.read (Elt F) (m ((c : Thread nD τ).loc main_arg1))
    | 1 => (win0_3.blk (0 : Fin 1)).view.read (Elt F) (m ((c : Thread nD τ).loc main_arg3))
    | _ => (win0_5.blk (0 : Fin 1)).view.read (Elt F) (m ((c : Thread nD τ).loc main_arg5))
  wo l c := match l with
    | 0 => (win0_2.blk (0 : Fin 1)).view.read (Elt F) (m ((c : Thread nD τ).loc main_arg2))
    | 1 => (win0_4.blk (0 : Fin 1)).view.read (Elt F) (m ((c : Thread nD τ).loc main_arg4))
    | _ => (win0_6.blk (0 : Fin 1)).view.read (Elt F) (m ((c : Thread nD τ).loc main_arg6))

/-- The three working buffers, at anything. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The invariants of all cells. -/
def cells (K : Dev nD × Own → ℕ) (dt : Plan F) : sProp 𝕄 :=
  bigSep (Finset.univ : Finset (Dev nD × Own)) fun ck => cellInv ER (sched dt) (K ck) (kcell ck)
instance cells_persistent (K : Dev nD × Own → ℕ) (dt : Plan F) : BI.Persistent (cells K dt) := by unfold cells; infer_instance

/-- What the global step makes for a device, and what its body starts from. -/
def G' (c : Dev nD) : sProp 𝕄 := iprop(∃ K, cells K (plan (ins m)) ∗ bigSep (Finset.range 7) (paid c) ∗ links c)
def start (c : Dev nD) : sProp 𝕄 := iprop(∃ K, ctx K (plan (ins m)) ∗ bigSep (Finset.range 7) (toks c) ∗ links c)

def phi0 (c : Dev nD) : sProp 𝕄 := iprop(start m c ∗ scr c)
def phi1 (c : Dev nD) : sProp 𝕄 := iprop(Pipeline.ownSems0 own c ∗ scr c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (ins m).X c
    | ⟨1, _⟩ => (ins m).wi 0 c
    | ⟨2, _⟩ => (ins m).wo 0 c
    | ⟨3, _⟩ => (ins m).wi 1 c
    | ⟨4, _⟩ => (ins m).wo 1 c
    | ⟨5, _⟩ => (ins m).wi 2 c
    | ⟨6, _⟩ => (ins m).wo 2 c
    | ⟨7, _⟩ => act (ins m) 3
  Φ t := match t with
    | ⟨0, _⟩ => phi0 m c
    | ⟨_ + 1, _⟩ => phi1 c
  q _ := fullShare
  owed t := match t with
    | ⟨0, _⟩ => owed c 0
    | ⟨_ + 1, _⟩ => owed c 224

theorem share_eq (c : Dev nD) (w : Fin cfg0.W) : (dats m ρ 0 c).share w = fullShare := by unfold Dat.share; split <;> rfl

/-! ## The body -/

/-- A staging buffer at given contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def wtsIn (c : Dev nD) : sProp 𝕄 :=
  iprop((∃ d, stg c cc0_stg1_0 ((dats m ρ 0 c).before (1 : Fin 8) t0_0 d)) ∗ (∃ d, stg c cc0_stg2_0 ((dats m ρ 0 c).before (2 : Fin 8) t0_0 d))
    ∗ (∃ d, stg c cc0_stg3_0 ((dats m ρ 0 c).before (3 : Fin 8) t0_0 d)) ∗ (∃ d, stg c cc0_stg4_0 ((dats m ρ 0 c).before (4 : Fin 8) t0_0 d))
    ∗ (∃ d, stg c cc0_stg5_0 ((dats m ρ 0 c).before (5 : Fin 8) t0_0 d)) ∗ (∃ d, stg c cc0_stg6_0 ((dats m ρ 0 c).before (6 : Fin 8) t0_0 d)) ∗ (∃ d, stg c cc0_stg7_0 ((dats m ρ 0 c).before (7 : Fin 8) t0_0 d)))

def bodyPre (c : Dev nD) : sProp 𝕄 :=
  iprop(phi0 m c ∗ (dats m ρ 0 c).owesAt 0 t0_0.castSucc ∗ (∃ d, stg c cc0_stg0_0 ((dats m ρ 0 c).before (0 : Fin 8) t0_0 d)) ∗ wtsIn m ρ c)
def bodyPost (c : Dev nD) : sProp 𝕄 :=
  iprop((dats m ρ 0 c).Φ t0_0.succ ∗ (dats m ρ 0 c).owesAt 0 t0_0.succ
     ∗ stg c cc0_stg0_0 ((dats m ρ 0 c).after (0 : Fin 8) t0_0) ∗ stg c cc0_stg1_0 ((dats m ρ 0 c).after (1 : Fin 8) t0_0) ∗ stg c cc0_stg2_0 ((dats m ρ 0 c).after (2 : Fin 8) t0_0)
     ∗ stg c cc0_stg3_0 ((dats m ρ 0 c).after (3 : Fin 8) t0_0) ∗ stg c cc0_stg4_0 ((dats m ρ 0 c).after (4 : Fin 8) t0_0) ∗ stg c cc0_stg5_0 ((dats m ρ 0 c).after (5 : Fin 8) t0_0)
     ∗ stg c cc0_stg6_0 ((dats m ρ 0 c).after (6 : Fin 8) t0_0) ∗ stg c cc0_stg7_0 ((dats m ρ 0 c).after (7 : Fin 8) t0_0))

/-! What the data say, read off. -/

theorem a_phi (c : Dev nD) : (dats m ρ 0 c).Φ t0_0.succ = phi1 c := rfl
theorem a0 (c : Dev nD) : (dats m ρ 0 c).after (0 : Fin 8) t0_0 = (ins m).X c := rfl
theorem a1 (c : Dev nD) : (dats m ρ 0 c).after (1 : Fin 8) t0_0 = (ins m).wi 0 c := rfl
theorem a2 (c : Dev nD) : (dats m ρ 0 c).after (2 : Fin 8) t0_0 = (ins m).wo 0 c := rfl
theorem a3 (c : Dev nD) : (dats m ρ 0 c).after (3 : Fin 8) t0_0 = (ins m).wi 1 c := rfl
theorem a4 (c : Dev nD) : (dats m ρ 0 c).after (4 : Fin 8) t0_0 = (ins m).wo 1 c := rfl
theorem a5 (c : Dev nD) : (dats m ρ 0 c).after (5 : Fin 8) t0_0 = (ins m).wi 2 c := rfl
theorem a6 (c : Dev nD) : (dats m ρ 0 c).after (6 : Fin 8) t0_0 = (ins m).wo 2 c := rfl
theorem a7 (c : Dev nD) : (dats m ρ 0 c).after (7 : Fin 8) t0_0 = act (ins m) 3 := rfl

omit [FloatOps F] in
theorem keeps_whole (c : Dev nD) (b : Ref sig .tc) (X : b.ty.Contents (Elt F)) :
    (owns (c : Thread nD τ) (Memref.whole b) fullShare X : sProp 𝕄) = stg c b X := owns_whole_eq _ _ _ _

theorem before_in (c : Dev nD) :
    (∀ d, (dats m ρ 0 c).before (0 : Fin 8) t0_0 d = (ins m).X c)
    ∧ (∀ d, (dats m ρ 0 c).before (1 : Fin 8) t0_0 d = (ins m).wi 0 c) ∧ (∀ d, (dats m ρ 0 c).before (2 : Fin 8) t0_0 d = (ins m).wo 0 c)
    ∧ (∀ d, (dats m ρ 0 c).before (3 : Fin 8) t0_0 d = (ins m).wi 1 c) ∧ (∀ d, (dats m ρ 0 c).before (4 : Fin 8) t0_0 d = (ins m).wo 1 c)
    ∧ (∀ d, (dats m ρ 0 c).before (5 : Fin 8) t0_0 d = (ins m).wi 2 c) ∧ (∀ d, (dats m ρ 0 c).before (6 : Fin 8) t0_0 d = (ins m).wo 2 c) := by
  refine ⟨?_, ?_, ?_, ?_, ?_, ?_, ?_⟩ <;> intro d <;> unfold Dat.before
  · rw [if_pos (fetch0_0 t0_0)]; rfl
  · rw [if_pos (fetch0_1 t0_0)]; rfl
  · rw [if_pos (fetch0_2 t0_0)]; rfl
  · rw [if_pos (fetch0_3 t0_0)]; rfl
  · rw [if_pos (fetch0_4 t0_0)]; rfl
  · rw [if_pos (fetch0_5 t0_0)]; rfl
  · rw [if_pos (fetch0_6 t0_0)]; rfl

theorem debt_in (c : Dev nD) : (dats m ρ 0 c).owesAt 0 t0_0.castSucc ⊢ debt c 0 := by
  unfold Dat.owesAt Pipeline.owesWithin debt
  rw [show (dats m ρ 0 c).owed t0_0.castSucc = owed c 0 from rfl]
  iintro ⟨%W, -, HO⟩
  iexists W; iexact HO

theorem debt_out (c : Dev nD) : debt c 224 ⊢ (dats m ρ 0 c).owesAt 0 t0_0.succ := by
  unfold Dat.owesAt Pipeline.owesWithin debt
  rw [show (dats m ρ 0 c).owed t0_0.succ = owed c 224 from rfl]
  iintro ⟨%W, HO⟩
  iexists W
  isplitr
  · ipureintro; exact fun _ _ => Or.inl trivial
  iexact HO

theorem body_in (c : Dev nD) :
    iprop((∃ d, stg c cc0_stg0_0 ((dats m ρ 0 c).before (0 : Fin 8) t0_0 d)) ∗ wtsIn m ρ c)
      ⊢ iprop(holds xB c ((ins m).X c) ∗ (∃ d, keeps oB c d) ∗ wts (ins m) c 0 ∗ wts (ins m) c 1 ∗ wts (ins m) c 2) := by
  obtain ⟨h0, h1, h2, h3, h4, h5, h6⟩ := before_in m ρ c
  have k0 : (∃ d, stg c cc0_stg0_0 ((dats m ρ 0 c).before (0 : Fin 8) t0_0 d) : sProp 𝕄) ⊢ holds xB c ((ins m).X c) := by
    simp only [h0]
    exact exists_elim fun _ => Entails.of_eq (keeps_whole c cc0_stg0_0 _).symm
  have k1 : (∃ d, stg c cc0_stg1_0 ((dats m ρ 0 c).before (1 : Fin 8) t0_0 d) : sProp 𝕄) ⊢ keeps (wiB 0) c ((ins m).wi 0 c) := by
    simp only [h1]
    exact exists_elim fun _ => Entails.of_eq (keeps_whole c cc0_stg1_0 _).symm
  have k2 : (∃ d, stg c cc0_stg2_0 ((dats m ρ 0 c).before (2 : Fin 8) t0_0 d) : sProp 𝕄) ⊢ keeps (woB 0) c ((ins m).wo 0 c) := by
    simp only [h2]
    exact exists_elim fun _ => Entails.of_eq (keeps_whole c cc0_stg2_0 _).symm
  have k3 : (∃ d, stg c cc0_stg3_0 ((dats m ρ 0 c).before (3 : Fin 8) t0_0 d) : sProp 𝕄) ⊢ keeps (wiB 1) c ((ins m).wi 1 c) := by
    simp only [h3]
    exact exists_elim fun _ => Entails.of_eq (keeps_whole c cc0_stg3_0 _).symm
  have k4 : (∃ d, stg c cc0_stg4_0 ((dats m ρ 0 c).before (4 : Fin 8) t0_0 d) : sProp 𝕄) ⊢ keeps (woB 1) c ((ins m).wo 1 c) := by
    simp only [h4]
    exact exists_elim fun _ => Entails.of_eq (keeps_whole c cc0_stg4_0 _).symm
  have k5 : (∃ d, stg c cc0_stg5_0 ((dats m ρ 0 c).before (5 : Fin 8) t0_0 d) : sProp 𝕄) ⊢ keeps (wiB 2) c ((ins m).wi 2 c) := by
    simp only [h5]
    exact exists_elim fun _ => Entails.of_eq (keeps_whole c cc0_stg5_0 _).symm
  have k6 : (∃ d, stg c cc0_stg6_0 ((dats m ρ 0 c).before (6 : Fin 8) t0_0 d) : sProp 𝕄) ⊢ keeps (woB 2) c ((ins m).wo 2 c) := by
    simp only [h6]
    exact exists_elim fun _ => Entails.of_eq (keeps_whole c cc0_stg6_0 _).symm
  have k7 (d) : (stg c cc0_stg7_0 d : sProp 𝕄) ⊢ keeps oB c d := Entails.of_eq (keeps_whole c cc0_stg7_0 _).symm
  unfold wtsIn wts
  iintro ⟨H0, H1, H2, H3, H4, H5, H6, ⟨%d, H7⟩⟩
  isplitl [H0]; · iapply k0; iexact H0
  isplitl [H7]; · iexists _; iapply (k7 _); iexact H7
  isplitl [H1 H2]
  · isplitl [H1]; · iapply k1; iexact H1
    iapply k2; iexact H2
  isplitl [H3 H4]
  · isplitl [H3]; · iapply k3; iexact H3
    iapply k4; iexact H4
  isplitl [H5]; · iapply k5; iexact H5
  iapply k6; iexact H6

theorem body_out (I : Ins F) (c : Dev nD) :
    iprop(holds xB c (I.X c) ∗ keeps oB c (act I 3) ∗ wts I c 0 ∗ wts I c 1 ∗ wts I c 2)
      ⊢ iprop(stg c cc0_stg0_0 (I.X c)
        ∗ stg c cc0_stg1_0 (I.wi 0 c) ∗ stg c cc0_stg2_0 (I.wo 0 c) ∗ stg c cc0_stg3_0 (I.wi 1 c) ∗ stg c cc0_stg4_0 (I.wo 1 c)
        ∗ stg c cc0_stg5_0 (I.wi 2 c) ∗ stg c cc0_stg6_0 (I.wo 2 c) ∗ stg c cc0_stg7_0 (act I 3)) := by
  have k0 : holds xB c (I.X c) ⊢ (stg c cc0_stg0_0 (I.X c) : sProp 𝕄) := Entails.of_eq (keeps_whole c cc0_stg0_0 _)
  have k1 : keeps (wiB 0) c (I.wi 0 c) ⊢ (stg c cc0_stg1_0 (I.wi 0 c) : sProp 𝕄) := Entails.of_eq (keeps_whole c cc0_stg1_0 _)
  have k2 : keeps (woB 0) c (I.wo 0 c) ⊢ (stg c cc0_stg2_0 (I.wo 0 c) : sProp 𝕄) := Entails.of_eq (keeps_whole c cc0_stg2_0 _)
  have k3 : keeps (wiB 1) c (I.wi 1 c) ⊢ (stg c cc0_stg3_0 (I.wi 1 c) : sProp 𝕄) := Entails.of_eq (keeps_whole c cc0_stg3_0 _)
  have k4 : keeps (woB 1) c (I.wo 1 c) ⊢ (stg c cc0_stg4_0 (I.wo 1 c) : sProp 𝕄) := Entails.of_eq (keeps_whole c cc0_stg4_0 _)
  have k5 : keeps (wiB 2) c (I.wi 2 c) ⊢ (stg c cc0_stg5_0 (I.wi 2 c) : sProp 𝕄) := Entails.of_eq (keeps_whole c cc0_stg5_0 _)
  have k6 : keeps (woB 2) c (I.wo 2 c) ⊢ (stg c cc0_stg6_0 (I.wo 2 c) : sProp 𝕄) := Entails.of_eq (keeps_whole c cc0_stg6_0 _)
  have k7 : keeps oB c (act I 3) ⊢ (stg c cc0_stg7_0 (act I 3) : sProp 𝕄) := Entails.of_eq (keeps_whole c cc0_stg7_0 _)
  unfold wts
  iintro ⟨H0, H7, ⟨H1, H2⟩, ⟨H3, H4⟩, H5, H6⟩
  isplitl [H0]; · iapply k0; iexact H0
  isplitl [H1]; · iapply k1; iexact H1
  isplitl [H2]; · iapply k2; iexact H2
  isplitl [H3]; · iapply k3; iexact H3
  isplitl [H4]; · iapply k4; iexact H4
  isplitl [H5]; · iapply k5; iexact H5
  isplitl [H6]; · iapply k6; iexact H6
  iapply k7; iexact H7

theorem scr_in (c : Dev nD) :
    (scr c : sProp 𝕄) ⊢ iprop((∃ f, keeps fB c f) ∗ (∃ p, keeps pB c p) ∗ ∃ f : Buf (Elt F) ((c : Thread nD τ).loc cc0_scratch2), ((c : Thread nD τ).loc cc0_scratch2) ↦{fullShare} f) := by
  have k0 (f) : (stg c cc0_scratch0 f : sProp 𝕄) ⊢ keeps fB c f := Entails.of_eq (keeps_whole c cc0_scratch0 _).symm
  have k1 (f) : (stg c cc0_scratch1 f : sProp 𝕄) ⊢ keeps pB c f := Entails.of_eq (keeps_whole c cc0_scratch1 _).symm
  unfold scr
  iintro ⟨⟨%f, H0⟩, ⟨%p, H1⟩, H2⟩
  isplitl [H0]
  · iexists f; iapply (k0 f); iexists f; isplitr; · ipureintro; rfl
    iexact H0
  isplitl [H1]
  · iexists p; iapply (k1 p); iexists p; isplitr; · ipureintro; rfl
    iexact H1
  iexact H2

theorem scr_out (c : Dev nD) : iprop((∃ f, keeps fB c f) ∗ (∃ p, keeps pB c p) ∗ slots c) ⊢ (scr c : sProp 𝕄) := by
  have k0 (f) : keeps fB c f ⊢ (stg c cc0_scratch0 f : sProp 𝕄) := Entails.of_eq (keeps_whole c cc0_scratch0 _)
  have k1 (f) : keeps pB c f ⊢ (stg c cc0_scratch1 f : sProp 𝕄) := Entails.of_eq (keeps_whole c cc0_scratch1 _)
  unfold scr
  iintro ⟨⟨%f, H0⟩, ⟨%p, H1⟩, H2⟩
  isplitl [H0]
  · ihave H := (k0 f) $$ H0
    icases H with ⟨%g, -, H⟩
    iexists g; iexact H
  isplitl [H1]
  · ihave H := (k1 p) $$ H1
    icases H with ⟨%g, -, H⟩
    iexists g; iexact H
  iapply (slots_join c (fun _ => blank .f32)); iexact H2

set_option maxHeartbeats 1000000 in
theorem body_sound (c : Dev nD) (hx : xB.IsWhole) :
    bodyPre m ρ c ⊢ run c (body xB hx (wiB 0) (woB 0) (wiB 1) (woB 1) (wiB 2) (woB 2) oB fB pB cB cc0_scratch3 cc0_scratch4 barS)
      (fun _ => bodyPost m ρ c) := by
  unfold bodyPre phi0 start
  iintro ⟨⟨⟨%K, #HC, Ht, Hl⟩, Hs⟩, Ho, Hin⟩
  ihave HD := (debt_in m ρ c) $$ Ho
  ihave Hin := (body_in m ρ c) $$ Hin
  icases Hin with ⟨Hx, ⟨%d, Hd⟩, HW⟩
  ihave Hs := (scr_in c) $$ Hs
  icases Hs with ⟨⟨%f, Hf⟩, ⟨%p, Hp⟩, ⟨%g, Hg⟩⟩
  ihave HS := (St_start c g) $$ [Hl HD Hg]
  · isplitl [Hl]; · iexact Hl
    isplitl [HD]; · iexact HD
    iexact Hg
  ihave Hw := (body_wp K (ins m) c hx f p d) $$ [Ht HS Hx Hf Hp Hd HW]
  · isplitr; · iexact HC
    isplitl [Ht]; · iexact Ht
    isplitl [HS]; · iexact HS
    isplitl [Hx]; · iexact Hx
    isplitl [Hf]; · iexact Hf
    isplitl [Hp]; · iexact Hp
    isplitl [Hd]; · iexact Hd
    iexact HW
  unfold run
  iapply (wp_fupd _ _ _ _ _)
  iapply (wp_wand _ _ _) $$ Hw
  iintro %_ ⟨HS, Hx, Hf, Hp, Hd, HW⟩
  ihave HS := (St_end c) $$ HS
  icases HS with ⟨Hsl, HD, Ha⟩
  imod (close_all K (plan (ins m)) c) $$ [Ha] with Hz
  · isplitr; · iexact HC
    iexact Ha
  imodintro
  ihave HO := (debt_out m ρ c) $$ HD
  ihave Hout := (body_out (ins m) c) $$ [Hx Hd HW]
  · isplitl [Hx]; · iexact Hx
    isplitl [Hd]; · iexact Hd
    iexact HW
  unfold bodyPost
  rw [a_phi, a0, a1, a2, a3, a4, a5, a6, a7]
  unfold phi1
  isplitl [Hz Hf Hp Hsl]
  · isplitl [Hz]; · iexact Hz
    iapply (scr_out c)
    isplitl [Hf]; · iexact Hf
    isplitl [Hp]; · iexact Hp
    iexact Hsl
  isplitl [HO]; · iexact HO
  iexact Hout

theorem body_named (hx : xB.IsWhole) :
    body (F := F) (Memref.whole cc0_stg0_0) hx (Memref.whole cc0_stg1_0) (Memref.whole cc0_stg2_0) (Memref.whole cc0_stg3_0) (Memref.whole cc0_stg4_0)
      (Memref.whole cc0_stg5_0) (Memref.whole cc0_stg6_0) (Memref.whole cc0_stg7_0) (Memref.whole cc0_scratch0) (Memref.whole cc0_scratch1)
      (Memref.whole cc0_scratch2) cc0_scratch3 cc0_scratch4 cc0_scratch5
      = body xB hx (wiB 0) (woB 0) (wiB 1) (woB 1) (wiB 2) (woB 2) oB fB pB cB cc0_scratch3 cc0_scratch4 barS := rfl

theorem at_point : bodyAt0 (F := F) t0_0 = cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_stg6_0) (Memref.isWhole_whole _) (Memref.whole cc0_stg7_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scratch5 := rfl

theorem body_printed (c : Dev nD) : bodyPre m ρ c ⊢ wp frame (wpE (defs₀ (F := F)) 𝒱₀ (c : Thread nD τ) none) Set.univ
    (bodyAt0 t0_0) (fun _ => bodyPost m ρ c) := by
  have h := body_sound m ρ c (Memref.isWhole_whole _)
  rw [← body_named] at h
  rw [at_point, body_eq]
  exact h

theorem body_obligation (c : Dev nD) : BodyObligation (dats (F := F) m ρ 0 c) (defs₀ (F := F)) 𝒱₀ 0 Set.univ := fun t => by
  rw [fin_N0 t]
  rw [bigSep_W0, bigSep_W0]
  simp only [owns_whole_eq]
  have h := body_printed m ρ c
  unfold bodyPre wtsIn at h
  refine BIBase.Entails.trans ?_ (h.trans ?_)
  · exact Entails.refl _
  rw [show defs₀ (F := F) Proc.tc 0 (t0_0, cfg0.slots t0_0) = bodyAt0 t0_0 from rfl]
  unfold bodyPost
  refine Entails.of_eq ?_
  congr 1

end Cert.RingMlp

end
-- ==== Proof.Run.lean ====
/- The run of the whole ring, for any float values: it ends, every counter at zero, the arguments as they were, and each
   device's result array at the same contents. -/
module

public import proofs.«01_k».proof.Proof.Launch

@[expose] public section

set_option maxRecDepth 16384

noncomputable section

namespace Cert.RingMlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

/-- The launch element: the pipeline's at the staging cells, the rounds' at the ring's. -/
def u₀ : UU :=
  (initOf (Pipeline.cells cfgs cellOf_inj) (Pipeline.launchToks cfgs cellOf_inj),
    initOf (Pipeline.ownCells cfgs (0 : Fin 1) ownSemFacts) (Pipeline.ownToksOf cfgs (0 : Fin 1) ownSemFacts duties))

omit [FloatOps F] in
theorem ownU_split (a : UP) (b : UR) : (ownU (a, b) : sProp 𝕄) ⊢ iprop(BI.own (EP a) ∗ BI.own (ER b)) :=
  BI.own_op_elim ((uEmb (nD := nD) (sig := sig) (Ix := ℕ) (Val := Elt F) (Name := ℕ) (U := UU) (Lvl := ℕ)).toEmb.op_of_mem
    (Prod.mk_mem_op (URA.mem_op_one a) (URA.mem_one_op b)))

def G (c : Dev nD) : sProp 𝕄 :=
  iprop(Pipeline.ownGhost cfgs (0 : Fin 1) ownSemFacts ER (sched (plan (ins m))) c ∗ bigSep (Finset.range 7) (mine c))

theorem core_alloc (c : Dev nD) :
    iprop(Pipeline.ownSems0 own c ∗ G m c)
      ⊢ |={Set.univ}=> iprop((bigSep Finset.univ fun k => iprop(∃ κ : ℕ, cellInv ER (sched (plan (ins m))) κ (kcell (c, k))))
          ∗ (bigSep Finset.univ fun k => iprop(atPos ER (kcell (c, k)) 0 ∅ 0 ∗ reached ER (kcell (c, k)) 0)) ∗ bigSep (Finset.range 7) (mine c)) := by
  unfold G
  rw [Pipeline.ownGhost_eq]
  iintro ⟨Hos, ⟨Hst, Hat⟩, Htok⟩
  imod (Pipeline.ownCells_alloc cfgs (0 : Fin 1) ownSemFacts ER (sched (plan (ins m))) c) $$ [Hos Hst] with Hinv
  · isplitl [Hos] <;> iassumption
  imodintro
  isplitl [Hinv]; · iexact Hinv
  isplitl [Hat]; · iexact Hat
  iexact Htok

/-- All invariants under one map of names, and that every round zero is reached. -/
def records (K : Dev nD × Own → ℕ) : sProp 𝕄 :=
  iprop(cells K (plan (ins m)) ∗ bigSep Finset.univ fun ck : Dev nD × Own => reached ER (kcell ck) 0)

instance records_persistent (K : Dev nD × Own → ℕ) : BI.Persistent (records m K) := by unfold records; infer_instance

theorem deal (K : Dev nD × Own → ℕ) (c : Dev nD) :
    iprop(records m K ∗ ((bigSep Finset.univ fun k : Own => (atPos ER (kcell (c, k)) 0 ∅ 0 : sProp 𝕄)) ∗ bigSep (Finset.range 7) (paid c))) ⊢ G' m c := by
  unfold records G'
  iintro ⟨⟨#HI, #HR⟩, Ha, Ht⟩
  iexists K
  isplitr; · iexact HI
  isplitl [Ht]; · iexact Ht
  iapply (links_intro c)
  isplitr; · iexact HR
  iexact Ha

theorem regroup :
    (bigSep Finset.univ fun c : Dev nD => iprop((bigSep Finset.univ fun k => iprop(∃ κ : ℕ, cellInv ER (sched (plan (ins m))) κ (kcell (c, k))))
          ∗ (bigSep Finset.univ fun k => iprop(atPos ER (kcell (c, k)) 0 ∅ 0 ∗ reached ER (kcell (c, k)) 0)) ∗ bigSep (Finset.range 7) (mine c)) : sProp 𝕄)
      ⊢ bigSep Finset.univ (G' m) := by
  rw [bigSep_sep', bigSep_sep', around_all, ← bigSep_univ_prod (fun ck : Dev nD × Own => iprop(∃ κ : ℕ, cellInv ER (sched (plan (ins m))) κ (kcell ck))),
    bigSep_congr (s := Finset.univ) (fun (c : Dev nD) _ => bigSep_sep' Finset.univ (fun k : Own => (atPos ER (kcell (c, k)) 0 ∅ 0 : sProp 𝕄)) (fun k => reached ER (kcell (c, k)) 0)),
    bigSep_sep', ← bigSep_univ_prod (fun ck : Dev nD × Own => (reached ER (kcell ck) 0 : sProp 𝕄))]
  iintro ⟨HI, ⟨Hat, #HR⟩, Htok⟩
  ihave HK := (BI.bigSep_exists_pi Finset.univ (fun (ck : Dev nD × Own) (κ : ℕ) => (cellInv ER (sched (plan (ins m))) κ (kcell ck) : sProp 𝕄))) $$ HI
  icases HK with ⟨%K, #HI⟩
  iapply (serve (R := records m K) fun c _ => deal m K c)
  isplitr
  · unfold records cells; isplitl; · iexact HI
    iexact HR
  rw [bigSep_sep']
  isplitl [Hat]; · iexact Hat
  iexact Htok

theorem glob : (bigSep Finset.univ fun c => iprop(Pipeline.ownSems0 own c ∗ G m c) : sProp 𝕄) ⊢ |={Set.univ}=> bigSep Finset.univ (G' m) :=
  ((bigSep_mono fun c _ => core_alloc m c).trans (bigSep_fupd _ _)).trans (BI.fupd_mono (regroup m))

theorem ctx_intro (K : Dev nD × Own → ℕ) : iprop(cells K (plan (ins m)) ∗ levAts L lv) ⊢ ctx K (plan (ins m)) := Entails.refl _

theorem start_intro (c : Dev nD) :
    iprop(Pipeline.unscopedRestP Pipeline.Prefetch.none cfg0.spec c (fun b => m ((c : Thread nD τ).loc b)) ∗ unscopedSems0 c ∗ levAts L lv
        ∗ Pipeline.launchCred (fun d : Dev nD => owed d 0) c ∗ prngReg c (ρ c) ∗ G' m c)
      ⊢ |={Set.univ}=> iprop(start m c ∗ emp) := by
  unfold G' start
  iintro ⟨-, -, Hlev, Hcr, -, ⟨%K, #HI, Hp, Hl⟩⟩
  ihave Hc := (creds (F := F) c) $$ Hcr
  imodintro
  isplitl
  · iexists K
    isplitl [Hlev]
    · iapply (ctx_intro m K)
      isplitr; · iexact HI
      iexact Hlev
    isplitl [Hp Hc]
    · iapply (toks_all c)
      isplitl [Hp]; · iexact Hp
      iexact Hc
    iexact Hl
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = phi0 m c from rfl, scopedRest0_eq]
  unfold phi0 scr
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 own c ∗ Pipeline.scopedRest cfg0.spec c) := by
  rw [show (dats m ρ 0 c).Φ (Fin.last cfg0.N) = phi1 c from rfl, scopedRest0_eq]
  unfold phi1 scr
  iintro ⟨Hz, Hr⟩
  isplitr; · iempintro
  isplitl [Hz]; · iexact Hz
  iexact Hr

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait c _ 0 0 le_rfl (by omega)
    · exact mayWait c _ 0 224 (by omega) le_rfl

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

theorem fund : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_split _ _) $$ Hu
  icases H with ⟨HP, HX⟩
  imod (Pipeline.fund_own cfgs (0 : Fin 1) ownSemFacts ER (sched (plan (ins m))) (Pipeline.ownToksOf cfgs (0 : Fin 1) ownSemFacts duties)) $$ HX with ⟨Hx, Htok⟩
  ihave Htk := (Entails.of_eq (Pipeline.bigSep_ownToksOf cfgs (0 : Fin 1) ownSemFacts ER duties)) $$ Htok
  imodintro
  isplitl [HP]; · iexact HP
  unfold G; rw [bigSep_sep', ← bigSep_congr (s := Finset.univ) fun (c : Dev nD) _ => mine_eq (F := F) c]
  isplitl [Hx] <;> iassumption

theorem all_scoped : ∀ sm : SemLoc sig, sm.isScoped .tc = true := by decide +kernel

theorem run_main : θ_run defs (onTc (τ := τ) (main (F := F))) (s₀ m ρ) (fun r => QC m ρ r ∧ r.2.sem = fun _ => 0) :=
  Pipeline.θ_run_region_owing_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := fun d : Dev nD => owed d 0) (howed₀ := fun _ => rfl) (howedN := fun c => owed_end c)
    (L := L) (lv := lv) (hL := L_of_ne) (hwaits := waits m ρ)
    (G := G m) (G' := G' m) (u₀ := u₀)
    (hu₀ := fund m)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h hs => ⟨fun c w => (h c).1 w, sem_eq_zero_of_scoped all_scoped hs⟩)

/-! ## The arrays after it -/

theorem finalA_in (c : Dev nD) (w : Fin 8) (h : (cfg0.win w).isOut = false) :
    finalA m ρ c w = (s₀ m ρ).mem ((cfg0.win w).arr.view.loc (c : Thread nD τ)) := (dats (F := F) m ρ 0 c).arrAt_in w h _

theorem finalA_out (c : Dev nD) : (win0_7.blk (0 : Fin 1)).view.read (Elt F) (finalA m ρ c (7 : Fin 8)) = act (ins m) 3 := by
  unfold finalA
  rw [show cfg0.N = ((0 : Fin 1) : Fin cfg0.N).val + 1 from rfl, (dats m ρ 0 c).arrAt_succ (7 : Fin 8) (0 : Fin 1)]
  rw [show (cfg0.win (7 : Fin 8)).flush (0 : Fin 1) = true from by decide, if_pos rfl]
  exact View.read_write_univ _ _

end Cert.RingMlp

end
-- ==== Proof.Frames.lean ====
/- The three runs' frames. The kernel's text at machine words and at ideal values is one text, so its two frames are one
   run read twice. -/
module

public import proofs.«01_k».proof.Defs
public import proofs.«01_k».proof.Proof.Run
public import proofs.«01_k».proof.Proof.Gen.Kernel
public import proofs.«01_k».proof.Proof.Gen.ReferenceIdeal.Run

@[expose] public section

set_option maxRecDepth 16384

noncomputable section

namespace Cert.RingMlp

open Idealize.ShloMosaic Idealize.ShloMosaic.TcCoe Idealize.SL.Sem
open Cert.KernelIdeal Cert.KernelIdeal.Gen

variable {F : FTy → Type} [FloatOps F]

/-- The arguments of device `c` are as they were. -/
theorem args_kept (m : (ℓ : Loc nD τ sig) → Buf (Elt F) ℓ) (ρ : Dev nD → PrngReg) {r : PUnit × MemSt nD τ sig (Elt F)} (h : QC m ρ r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  ⟨(h c (0 : Fin 8)).trans (finalA_in m ρ c 0 rfl), (h c (1 : Fin 8)).trans (finalA_in m ρ c 1 rfl), (h c (2 : Fin 8)).trans (finalA_in m ρ c 2 rfl),
    (h c (3 : Fin 8)).trans (finalA_in m ρ c 3 rfl), (h c (4 : Fin 8)).trans (finalA_in m ρ c 4 rfl), (h c (5 : Fin 8)).trans (finalA_in m ρ c 5 rfl),
    (h c (6 : Fin 8)).trans (finalA_in m ρ c 6 rfl)⟩

/-- The run, read at the arguments and the counters. -/
theorem run_frame (m : (ℓ : Loc nD τ sig) → Buf (Elt F) ℓ) (ρ : Dev nD → PrngReg) :
    θ_run defs (onTc (τ := τ) (main (F := F))) (s₀ m ρ) (fun r => (∀ c : Dev nD,
      r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6))
      ∧ r.2.sem = fun _ => 0) :=
  (θ_run defs _ _).mono (fun _ h => ⟨fun c => args_kept m ρ h.1 c, h.2⟩) (run_main m ρ)

theorem frame_ideal : Cert.quiescent_KernelIdeal := fun m ρ _ => run_frame (F := Ideal) m ρ

/-- The two tables of kernel bodies are one table. -/
theorem bodies_eq : Cert.Kernel.defs₀ (F := F) = Cert.KernelIdeal.defs₀ (F := F) := by
  unfold Cert.Kernel.defs₀ Cert.KernelIdeal.defs₀
  congr 1; funext l y
  rcases l with ⟨_ | _, h⟩
  · rcases y with ⟨t, s⟩; rfl
  · exact absurd h (by omega)

theorem defs_eq : Cert.Kernel.defs (F := F) = Cert.KernelIdeal.defs (F := F) :=
  congrArg (Pipeline.defs (Cert.KernelIdeal.pcfgs (F := F))) bodies_eq

theorem frame_kernel : Cert.quiescent_Kernel := fun m ρ _ => by
  have h := run_frame (F := Bits) m ρ
  rw [← defs_eq] at h
  exact h

theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.RingMlp

end
-- ==== Proof.Sums.lean ====
/- The layer at ideal values: what the ring adds up is the sum over the devices, and the devices' blocks of columns of
   the first weights and of rows of the second make up the whole contraction. -/
module

public import proofs.«01_k».proof.Proof.Flow
public import proofs.«01_k».proof.Proof.Gen.ReferenceIdeal
public import Idealize.ShloMosaic.Lib.MatmulPlain
public import Idealize.ShloMosaic.Lib.StackMember
public import Idealize.ShloMosaic.Lib.IdealHost
public import Idealize.ShloMosaic.Lib.Layout

@[expose] public section

set_option maxRecDepth 16384

noncomputable section

namespace Cert.RingMlp

open Idealize.ShloMosaic Idealize.ShloMosaic.ValueIdx
open Cert.KernelIdeal Cert.KernelIdeal.Gen
open scoped BigOperators

/-! ## The ring's sum -/

theorem back_prv (c : Dev nD) (k : ℕ) (hk : k < 31) : back (prv c) k = back c (k + 1) := by
  have := back_nxt (prv c) k hk
  rw [nxt_prv] at this
  exact this.symm

theorem acc_sum (P : Dev nD → Dev nD → Blk Ideal) (x : S128x128.Idx) : ∀ (k : ℕ) (_ : k ≤ 31) (c : Dev nD),
    (acc P k c x : EReal) = ∑ i ∈ Finset.range (k + 1), (P (back c i) (back c k) x : EReal)
  | 0, _, c => by
    rw [Finset.sum_range_one, back_zero]; rfl
  | k + 1, hk, c => by
    rw [Finset.sum_range_succ']
    show (P c (back c (k + 1)) x : EReal) + (acc P k (prv c) x : EReal) = _
    rw [acc_sum P x k (by omega) (prv c), add_comm, back_zero, back_prv c k (by omega)]
    refine congrArg (· + _) (Finset.sum_congr rfl fun i hi => ?_)
    rw [back_prv c i (by have := Finset.mem_range.mp hi; omega)]

/-- Counting back from a device meets each device once. -/
def steps (c : Dev nD) : Fin 32 ≃ Dev nD where
  toFun i := back c i.val
  invFun d := ⟨dist c d, dist_lt c d⟩
  left_inv i := Fin.ext (dist_back c i.val i.isLt)
  right_inv d := back_dist c d

theorem tot_sum (P : Dev nD → Dev nD → Blk Ideal) (j : Dev nD) (x : S128x128.Idx) :
    (tot P j x : EReal) = ∑ d : Dev nD, (P d j x : EReal) := by
  unfold tot
  rw [acc_sum P x 31 le_rfl (prv j), back_last, nxt_prv, Finset.sum_range]
  exact Equiv.sum_comp (steps (prv j)) fun d => (P d j x : EReal)

/-! ## One device's product -/

/-- One entry of the two products with the rectifier between, over any number of columns. -/
def entry {k : ℕ} (A : S4096x128.Idx → EReal) (W : (⟨2, ![128, k]⟩ : Shape).Idx → EReal) (W' : (⟨2, ![k, 128]⟩ : Shape).Idx → EReal)
    (r : Fin 4096) (q : Fin 128) : EReal :=
  ∑ t : Fin k, max (∑ s : Fin 128, A (ix2 r s) * W (ix2 s t)) 0 * W' (ix2 t q)

theorem zero_add_const (t : EReal) : (Scalar.ofBits .f32 0x00000000#32 : Ideal .f32) + t = t := by
  rw [show (Scalar.ofBits .f32 0x00000000#32 : Ideal .f32) = (0 : EReal) from Ideal.ofBits_zero_f32, zero_add]

theorem tileVal_apply (a : Vec Ideal S1024x128 .f32) (wi : Vec Ideal S128x256 .f32) (wo : Vec Ideal S256x128 .f32) (r : Fin 1024) (q : Fin 128) :
    (tileVal a wi wo (ix2 r q) : EReal) = ∑ t : Fin 256, max (∑ s : Fin 128, (a (ix2 r s) : EReal) * wi (ix2 s t)) 0 * wo (ix2 t q) := by
  unfold tileVal
  rw [shapeCast_self, shapeCast_self]
  refine (Ideal.matmul_plain_apply none _ _ _ r q).trans ?_
  refine (zero_add_const _).trans (Finset.sum_congr rfl fun t _ => ?_)
  refine congrArg (fun z : EReal => z * wo (ix2 t q)) ?_
  refine congrArg₂ max ?_ Ideal.ofBits_zero_f32
  exact (Ideal.matmul_plain_apply none _ _ _ r t).trans (zero_add_const _)

theorem prod_apply (A : S4096x128.Idx → Elt Ideal .f32) (wi : Vec Ideal S128x256 .f32) (wo : Vec Ideal S256x128 .f32) (r : Fin 4096) (q : Fin 128) :
    (prod A wi wo (ix2 r q) : EReal) = entry A wi wo r q := by
  unfold prod entry
  rw [eq_ix2 (inTile (ix2 r q))]
  refine (tileVal_apply _ wi wo _ _).trans (Finset.sum_congr rfl fun t _ => ?_)
  refine congrArg₂ (fun z z' : EReal => max z 0 * z') (Finset.sum_congr rfl fun s _ => ?_) rfl
  refine congrArg (fun y => (A y : EReal) * wi (ix2 s t)) (ext2 ?_ ?_)
  · rw [tile_row]; exact (show 1024 * (r.val / 1024) + r.val % 1024 = r.val by omega)
  · rw [tile_col]

/-! ## The reference's layer -/

/-- The reference's layer, as it is printed. -/
def refLayer (A : FVec Ideal Cert.ReferenceIdeal.S4096x128 .f32) (W : FVec Ideal Cert.ReferenceIdeal.S128x8192 .f32)
    (W' : FVec Ideal Cert.ReferenceIdeal.S8192x128 .f32) : FVec Ideal Cert.ReferenceIdeal.S4096x128 .f32 :=
  Host.dotGeneral Cert.ReferenceIdeal.dot_S4096x8192_S8192x128_S4096x128_1_0_0_1_n_n none
    (maximumf (Host.dotGeneral Cert.ReferenceIdeal.dot_S4096x128_S128x8192_S4096x8192_1_0_0_1_n_n none A W)
      (broadcastInDim Cert.ReferenceIdeal.S4096x8192 ![] Cert.ReferenceIdeal.Facts₀.bcast_S_S4096x8192 (constant Cert.ReferenceIdeal.S_ .f32 0x00000000#32))) W'

theorem refLayer_apply (A : FVec Ideal Cert.ReferenceIdeal.S4096x128 .f32) (W : FVec Ideal Cert.ReferenceIdeal.S128x8192 .f32)
    (W' : FVec Ideal Cert.ReferenceIdeal.S8192x128 .f32) (r : Fin 4096) (q : Fin 128) :
    (refLayer A W W' (ix2 r q) : EReal) = entry (k := 8192) A W W' r q := by
  unfold refLayer entry
  refine (StackMember.dotGeneral_plain_apply none _ _ r q).trans (Finset.sum_congr rfl fun t _ => ?_)
  refine congrArg (fun z : EReal => z * W' (ix2 t q)) ?_
  refine congrArg₂ max (StackMember.dotGeneral_plain_apply none A W r t) ?_
  exact Ideal.ofBits_zero_f32

/-! ## The devices' blocks make up the whole -/

/-- Column `t` of device `d`'s block, in the whole. -/
abbrev colOf (d : Fin 32) (t : Fin 256) : Fin 8192 := ⟨d.val * 256 + t.val, by omega⟩

theorem sum_blocks (f : Fin 8192 → EReal) : ∑ d : Fin 32, ∑ t : Fin 256, f (colOf d t) = ∑ k, f k := by
  rw [← Equiv.sum_comp (finProdFinEquiv (m := 32) (n := 256)) f, Fintype.sum_prod_type]
  refine Finset.sum_congr rfl fun d _ => Finset.sum_congr rfl fun t _ => congrArg f (Fin.ext ?_)
  show d.val * 256 + t.val = t.val + 256 * d.val
  omega

theorem entry_blocks (A : S4096x128.Idx → EReal) (W : (⟨2, ![128, 8192]⟩ : Shape).Idx → EReal) (W' : (⟨2, ![8192, 128]⟩ : Shape).Idx → EReal)
    (r : Fin 4096) (q : Fin 128) :
    ∑ d : Fin 32, entry A (Layout.block ⟨2, ![128, 256]⟩ ⟨2, ![128, 8192]⟩ 1 32 d W) (Layout.block ⟨2, ![256, 128]⟩ ⟨2, ![8192, 128]⟩ 0 32 d W') r q
      = entry A W W' r q := by
  unfold entry
  rw [← sum_blocks]
  refine Finset.sum_congr rfl fun d _ => Finset.sum_congr rfl fun t _ => ?_
  refine congrArg₂ (fun z z' : EReal => max z 0 * z') (Finset.sum_congr rfl fun s _ => ?_) ?_
  · exact congrArg (fun y => A (ix2 r s) * W y) (ext2 rfl rfl)
  · exact congrArg W' (ext2 rfl rfl)

theorem glue_blocks (X : S4096x128.Idx → Elt Ideal .f32) :
    glue (fun c => Layout.block ⟨2, ![128, 128]⟩ ⟨2, ![4096, 128]⟩ 0 32 c X) = X := by
  funext y
  refine congrArg X (ext2 ?_ rfl)
  exact (show ((y 0).val / 128) * 128 + (y 0).val % 128 = (y 0).val by omega)

/-! ## The whole -/

/-- One layer of the ring is one layer of the reference. -/
theorem layer_eq (A : S4096x128.Idx → Elt Ideal .f32) (W : FVec Ideal Cert.ReferenceIdeal.S128x8192 .f32)
    (W' : FVec Ideal Cert.ReferenceIdeal.S8192x128 .f32) (wi : Dev nD → Vec Ideal S128x256 .f32) (wo : Dev nD → Vec Ideal S256x128 .f32)
    (hi : ∀ c, wi c = Layout.block ⟨2, ![128, 256]⟩ ⟨2, ![128, 8192]⟩ 1 32 c W) (ho : ∀ c, wo c = Layout.block ⟨2, ![256, 128]⟩ ⟨2, ![8192, 128]⟩ 0 32 c W') :
    glue (tot fun c => cut (prod A (wi c) (wo c))) = refLayer A W W' := by
  funext y
  obtain ⟨r, q, rfl⟩ : ∃ (r : Fin 4096) (q : Fin 128), y = ix2 r q := ⟨y 0, y 1, eq_ix2 y⟩
  refine ((tot_sum _ _ _).trans ?_).trans (refLayer_apply A W W' _ _).symm
  rw [← entry_blocks]
  refine Finset.sum_congr rfl fun d _ => ?_
  rw [← hi, ← ho]
  refine Eq.trans ?_ (prod_apply A (wi d) (wo d) r q)
  exact congrArg (prod A (wi d) (wo d)) (part_at (ix2 r q))

theorem act_eq (I : Ins Ideal) (X : FVec Ideal Cert.ReferenceIdeal.S4096x128 .f32) (W : ℕ → FVec Ideal Cert.ReferenceIdeal.S128x8192 .f32)
    (W' : ℕ → FVec Ideal Cert.ReferenceIdeal.S8192x128 .f32)
    (hX : ∀ c, I.X c = Layout.block ⟨2, ![128, 128]⟩ ⟨2, ![4096, 128]⟩ 0 32 c X)
    (hi : ∀ l c, I.wi l c = Layout.block ⟨2, ![128, 256]⟩ ⟨2, ![128, 8192]⟩ 1 32 c (W l))
    (ho : ∀ l c, I.wo l c = Layout.block ⟨2, ![256, 128]⟩ ⟨2, ![8192, 128]⟩ 0 32 c (W' l)) :
    act I 3 = refLayer (refLayer (refLayer X (W 0) (W' 0)) (W 1) (W' 1)) (W 2) (W' 2) := by
  have h0 : act I 0 = X := by
    rw [← glue_blocks X]
    exact congrArg glue (funext hX)
  have hs : ∀ l, act I (l + 1) = refLayer (act I l) (W l) (W' l) := fun l => layer_eq (act I l) (W l) (W' l) (I.wi l) (I.wo l) (hi l) (ho l)
  rw [hs 2, hs 1, hs 0, h0]

end Cert.RingMlp

end
-- ==== Proof.Value.lean ====
/- The ring's result at ideal values is the reference's. -/
module

public import proofs.«01_k».proof.Proof.Frames
public import proofs.«01_k».proof.Proof.Sums

@[expose] public section

set_option maxRecDepth 16384

noncomputable section

namespace Cert.RingMlp

open Idealize.ShloMosaic Idealize.ShloMosaic.TcCoe Idealize.SL.Sem
open Cert.KernelIdeal Cert.KernelIdeal.Gen

section Reads
variable {F : FTy → Type} [FloatOps F]

/-! ## Each window's one block is its whole array -/

theorem read0 (f) : (win0_0.blk (0 : Fin 1)).view.read (Elt F) f = f :=
  Memref.read_access_unit_zero (Elt F) main_arg0 (funext fun a => by fin_cases a <;> decide) (fun a => by fin_cases a <;> decide) f
theorem read1 (f) : (win0_1.blk (0 : Fin 1)).view.read (Elt F) f = f :=
  Memref.read_access_unit_zero (Elt F) main_arg1 (funext fun a => by fin_cases a <;> decide) (fun a => by fin_cases a <;> decide) f
theorem read2 (f) : (win0_2.blk (0 : Fin 1)).view.read (Elt F) f = f :=
  Memref.read_access_unit_zero (Elt F) main_arg2 (funext fun a => by fin_cases a <;> decide) (fun a => by fin_cases a <;> decide) f
theorem read3 (f) : (win0_3.blk (0 : Fin 1)).view.read (Elt F) f = f :=
  Memref.read_access_unit_zero (Elt F) main_arg3 (funext fun a => by fin_cases a <;> decide) (fun a => by fin_cases a <;> decide) f
theorem read4 (f) : (win0_4.blk (0 : Fin 1)).view.read (Elt F) f = f :=
  Memref.read_access_unit_zero (Elt F) main_arg4 (funext fun a => by fin_cases a <;> decide) (fun a => by fin_cases a <;> decide) f
theorem read5 (f) : (win0_5.blk (0 : Fin 1)).view.read (Elt F) f = f :=
  Memref.read_access_unit_zero (Elt F) main_arg5 (funext fun a => by fin_cases a <;> decide) (fun a => by fin_cases a <;> decide) f
theorem read6 (f) : (win0_6.blk (0 : Fin 1)).view.read (Elt F) f = f :=
  Memref.read_access_unit_zero (Elt F) main_arg6 (funext fun a => by fin_cases a <;> decide) (fun a => by fin_cases a <;> decide) f
theorem read7 (f) : (win0_7.blk (0 : Fin 1)).view.read (Elt F) f = f :=
  Memref.read_access_unit_zero (Elt F) main_v1 (funext fun a => by fin_cases a <;> decide) (fun a => by fin_cases a <;> decide) f

end Reads

/-- The reference's array of argument `b`. -/
abbrev refArg (m' : (ℓ : Loc Cert.ReferenceIdeal.nD Cert.ReferenceIdeal.τ Cert.ReferenceIdeal.sig) → Buf (Elt Ideal) ℓ) (b : Ref Cert.ReferenceIdeal.sig .tc) :=
  m' (((0 : Dev Cert.ReferenceIdeal.nD).tc : Thread Cert.ReferenceIdeal.nD Cert.ReferenceIdeal.τ).loc b)

/-- The reference's result. -/
def refOut (m' : (ℓ : Loc Cert.ReferenceIdeal.nD Cert.ReferenceIdeal.τ Cert.ReferenceIdeal.sig) → Buf (Elt Ideal) ℓ) :
    FVec Ideal Cert.ReferenceIdeal.S4096x128 .f32 :=
  refLayer (refLayer (refLayer (refArg m' Cert.ReferenceIdeal.main_arg0) (refArg m' Cert.ReferenceIdeal.main_arg1) (refArg m' Cert.ReferenceIdeal.main_arg2))
    (refArg m' Cert.ReferenceIdeal.main_arg3) (refArg m' Cert.ReferenceIdeal.main_arg4))
    (refArg m' Cert.ReferenceIdeal.main_arg5) (refArg m' Cert.ReferenceIdeal.main_arg6)

theorem algebraic : Cert.algebraic_KernelIdeal_ReferenceIdeal := by
  intro m ρ m' ρ' _ hin
  refine ⟨refOut m', ?_, ?_⟩
  · refine (θ_run defs _ _).mono (fun _ h c => ⟨(h.1 c (7 : Fin 8)).trans ?_, args_kept m ρ h.1 c⟩) (run_main (F := Ideal) m ρ)
    refine (read7 _).symm.trans ((finalA_out m ρ c).trans ?_)
    refine act_eq (ins m) (refArg m' Cert.ReferenceIdeal.main_arg0)
      (fun | 0 => refArg m' Cert.ReferenceIdeal.main_arg1 | 1 => refArg m' Cert.ReferenceIdeal.main_arg3 | _ => refArg m' Cert.ReferenceIdeal.main_arg5)
      (fun | 0 => refArg m' Cert.ReferenceIdeal.main_arg2 | 1 => refArg m' Cert.ReferenceIdeal.main_arg4 | _ => refArg m' Cert.ReferenceIdeal.main_arg6)
      (fun c => (read0 _).trans (hin c).1) (fun l c => ?_) (fun l c => ?_)
    · match l with
      | 0 => exact (read1 _).trans (hin c).2.1
      | 1 => exact (read3 _).trans (hin c).2.2.2.1
      | _ + 2 => exact (read5 _).trans (hin c).2.2.2.2.2.1
    · match l with
      | 0 => exact (read2 _).trans (hin c).2.2.1
      | 1 => exact (read4 _).trans (hin c).2.2.2.2.1
      | _ + 2 => exact (read6 _).trans (hin c).2.2.2.2.2.2
  · exact (θ_run Cert.ReferenceIdeal.defs _ _).mono (fun _ h => h 0) (Cert.ReferenceIdeal.Value.run (F := Ideal) m' ρ')

end Cert.RingMlp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.RingMlp.frame_kernel, Cert.RingMlp.frame_ideal, Cert.RingMlp.frame_ref, trivial, Cert.RingMlp.algebraic⟩

end Cert.Proof

end
